-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel)
    ∧ quiescent_KernelIdeal (hKernelIdeal := hKernelIdeal)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_sorted_segments.lean ====
abbrev S32768x128 : Shape := ⟨2, ![32768, 128]⟩
abbrev S32768 : Shape := ⟨1, ![32768]⟩
abbrev S_ : Shape := ⟨0, ![]⟩
abbrev S1 : Shape := ⟨1, ![1]⟩
abbrev S32767 : Shape := ⟨1, ![32767]⟩

class Facts : Prop where
  bcast_S_S1 : S_.BroadcastsInDim S1 (![] : Fin 0 → Fin S1.rank)
  slices_S32768_S32767_0 : S32768.Slices ![0] S32767
  concatenates_S1_S32767_S32768_d0 : Shape.Concatenates [S1, S32767] S32768 0
  bcast_S_S32768 : S_.BroadcastsInDim S32768 (![] : Fin 0 → Fin S32768.rank)

variable [Facts]

def fn {F : FTy → Type} [FloatOps F] (main_arg0 : FVec F S32768x128 .f32) (main_arg1 : IVec S32768 32) : IVec S32768 1 :=
  let main_c : IVec S_ 32 := constantI S_ 32 0#32
  let main_v0 : IVec S1 32 := broadcastInDim S1 ![] bcast_S_S1 main_c
  let main_v1 : IVec S32767 32 := (extractStridedSlice S32767 ![0] · slices_S32768_S32767_0) main_arg1
  let main_v2 : IVec S32768 32 := (fun a b => concatenate S32768 0 [⟨S1, a⟩, ⟨S32767, b⟩] concatenates_S1_S32767_S32768_d0) main_v0 main_v1
  let main_v3 : IVec S32768 1 := cmpi .sle main_v2 main_arg1
  let main_c_0 : IVec S_ 32 := constantI S_ 32 16#32
  let main_v4 : IVec S32768 32 := broadcastInDim S32768 ![] bcast_S_S32768 main_c_0
  let main_v5 : IVec S32768 1 := cmpi .slt main_arg1 main_v4
  let main_v6 : IVec S32768 1 := andi main_v3 main_v5
  main_v6
-- ==== Kernel.lean ====
abbrev S32768x128 : Shape := ⟨2, ![32768, 128]⟩
abbrev S32768 : Shape := ⟨1, ![32768]⟩
abbrev S32x17x128 : Shape := ⟨3, ![32, 17, 128]⟩
abbrev S576 : Shape := ⟨1, ![576]⟩
abbrev S17 : Shape := ⟨1, ![17]⟩
abbrev S32 : Shape := ⟨1, ![32]⟩
abbrev S17x128 : Shape := ⟨2, ![17, 128]⟩
abbrev S2x288x128 : Shape := ⟨3, ![2, 288, 128]⟩
abbrev S_ : Shape := ⟨0, ![]⟩
abbrev S1x288x128 : Shape := ⟨3, ![1, 288, 128]⟩
abbrev S288x128 : Shape := ⟨2, ![288, 128]⟩
abbrev S16 : Shape := ⟨1, ![16]⟩
abbrev S1x16 : Shape := ⟨2, ![1, 16]⟩
abbrev S1 : Shape := ⟨1, ![1]⟩
abbrev S1x1x16 : Shape := ⟨3, ![1, 1, 16]⟩
abbrev S1x17x128 : Shape := ⟨3, ![1, 17, 128]⟩
abbrev S16x1x2048 : Shape := ⟨3, ![16, 1, 2048]⟩
abbrev S16x128 : Shape := ⟨2, ![16, 128]⟩
abbrev S1x1x2048 : Shape := ⟨3, ![1, 1, 2048]⟩
abbrev S2048x128 : Shape := ⟨2, ![2048, 128]⟩
abbrev S2048 : Shape := ⟨1, ![2048]⟩
abbrev S2048x16 : Shape := ⟨2, ![2048, 16]⟩
abbrev S2048x1 : Shape := ⟨2, ![2048, 1]⟩
abbrev S16x1 : Shape := ⟨2, ![16, 1]⟩

abbrev nBuf : Table → Nat
  | .hbm => 7
  | .local .tc .vmem => 12
  | .local .scVector .smem => 1
  | .local .scVector .vmem => 4
  | _ => 0

abbrev bufTy : (tb : Table) → Fin (nBuf tb) → BufTy
  | .hbm, ⟨0, _⟩ => ⟨S32768x128, .f32⟩
  | .hbm, ⟨1, _⟩ => ⟨S32768, .i32⟩
  | .hbm, ⟨2, _⟩ => ⟨S32x17x128, .f32⟩
  | .hbm, ⟨3, _⟩ => ⟨S16x1x2048, .i32⟩
  | .hbm, ⟨4, _⟩ => ⟨S16x128, .f32⟩
  | .hbm, ⟨5, _⟩ => ⟨S16x128, .f32⟩
  | .hbm, ⟨6, _⟩ => ⟨S16x128, .f32⟩
  | .local .tc .vmem, ⟨0, _⟩ => ⟨S1x1x2048, .i32⟩
  | .local .tc .vmem, ⟨1, _⟩ => ⟨S1x1x2048, .i32⟩
  | .local .tc .vmem, ⟨2, _⟩ => ⟨S2048x128, .f32⟩
  | .local .tc .vmem, ⟨3, _⟩ => ⟨S2048x128, .f32⟩
  | .local .tc .vmem, ⟨4, _⟩ => ⟨S16x128, .f32⟩
  | .local .tc .vmem, ⟨5, _⟩ => ⟨S16x128, .f32⟩
  | .local .tc .vmem, ⟨6, _⟩ => ⟨S16x128, .f32⟩
  | .local .tc .vmem, ⟨7, _⟩ => ⟨S16x128, .f32⟩
  | .local .tc .vmem, ⟨8, _⟩ => ⟨S32x17x128, .f32⟩
  | .local .tc .vmem, ⟨9, _⟩ => ⟨S16x128, .f32⟩
  | .local .tc .vmem, ⟨10, _⟩ => ⟨S16x128, .f32⟩
  | .local .tc .vmem, ⟨11, _⟩ => ⟨S16x128, .f32⟩
  | .local .scVector .smem, ⟨0, _⟩ => ⟨S17, .i32⟩
  | .local .scVector .vmem, ⟨0, _⟩ => ⟨S576, .i32⟩
  | .local .scVector .vmem, ⟨1, _⟩ => ⟨S32, .i32⟩
  | .local .scVector .vmem, ⟨2, _⟩ => ⟨S17x128, .f32⟩
  | .local .scVector .vmem, ⟨3, _⟩ => ⟨S2x288x128, .f32⟩
  | _, _ => ⟨S32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc0_scratch1 : Ref sig .scVector := ⟨.smem, 0, rfl⟩
abbrev cc0_scratch0 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem3_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v2 : BitVec 32 := Scalar.muli v1 c576_i32
  let v3 : BitVec 32 := Scalar.addi v2 c0_i32
  let c0_i32_3 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v2 : BitVec 32 := Scalar.muli v1 c576_i32
  ![v2.toNat]
@[reducible] def k0_t1_loop : Scf.Loop 32 :=
  let c0_i32_14 : BitVec 32 := 0#32
  let c17_i32 : BitVec 32 := 17#32
  let v17 : BitVec 32 := Scalar.addi c0_i32_14 c17_i32
  let c1_i32_15 : BitVec 32 := 1#32
  ⟨c0_i32_14, v17, c1_i32_15⟩
def k0_off3 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v117 : Index := Scalar.indexCast arg12
  let c0_55 : Index := 0#32
  ![v117.toNat, 0]
def k0_off4 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v120 : Index := Scalar.indexCast arg12
  let c16_57 : Index := 16#32
  ![v120.toNat, 16]
def k0_off5 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v123 : Index := Scalar.indexCast arg12
  let c32 : Index := 32#32
  ![v123.toNat, 32]
def k0_off6 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v126 : Index := Scalar.indexCast arg12
  let c48 : Index := 48#32
  ![v126.toNat, 48]
def k0_off7 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v129 : Index := Scalar.indexCast arg12
  let c64 : Index := 64#32
  ![v129.toNat, 64]
def k0_off8 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v132 : Index := Scalar.indexCast arg12
  let c80 : Index := 80#32
  ![v132.toNat, 80]
def k0_off9 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v135 : Index := Scalar.indexCast arg12
  let c96 : Index := 96#32
  ![v135.toNat, 96]
def k0_off10 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let v138 : Index := Scalar.indexCast arg12
  let c112 : Index := 112#32
  ![v138.toNat, 112]
@[reducible] def k0_t2_loop : Scf.Loop 32 :=
  let c0_i32_19 : BitVec 32 := 0#32
  let c10_i32 : BitVec 32 := 10#32
  let v22 : BitVec 32 := Scalar.addi c0_i32_19 c10_i32
  let c1_i32_20 : BitVec 32 := 1#32
  ⟨c0_i32_19, v22, c1_i32_20⟩

def k0_chk1 (v120 : IVec S16 32) : Prop :=
  (∀ a x, ((![v120] : Fin 1 → IVec S16 32) a x).toNat < S576.size a)
theorem k0_idx1_inb : ∀ (v120 : IVec S16 32) (k0_hw1 : k0_chk1 v120), ∀ a x, ((![v120] : Fin 1 → IVec S16 32) a x).toNat < S576.size a := fun v120 k0_hw1 => k0_hw1

def k0_chk2 (v28 : IVec S16 32) : Prop :=
  (∀ a x, ((![v28] : Fin 1 → IVec S16 32) a x).toNat < S32.size a)
theorem k0_idx2_inb : ∀ (v28 : IVec S16 32) (k0_hw2 : k0_chk2 v28), ∀ a x, ((![v28] : Fin 1 → IVec S16 32) a x).toNat < S32.size a := fun v28 k0_hw2 => k0_hw2
def k0_off11 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c576_i32 : BitVec 32 := 576#32
  let v2 : BitVec 32 := Scalar.muli v1 c576_i32
  let v3 : BitVec 32 := Scalar.addi v2 c0_i32
  let c0_i32_34 : BitVec 32 := 0#32
  ![v3.toNat, 0]
@[reducible] def k0_t3_loop : Scf.Loop 32 :=
  let c0_i32_39 : BitVec 32 := 0#32
  let c16_i32_40 : BitVec 32 := 16#32
  let v106 : BitVec 32 := Scalar.addi c0_i32_39 c16_i32_40
  let c1_i32_41 : BitVec 32 := 1#32
  ⟨c0_i32_39, v106, c1_i32_41⟩
def k0_off12 (k0_t3 : Fin k0_t3_loop.trips) : Fin 1 → Nat :=
  let c0_i32_39 : BitVec 32 := 0#32
  let c1_i32_41 : BitVec 32 := 1#32
  let arg12 : BitVec 32 := Scf.iv c0_i32_39 c1_i32_41 k0_t3
  let v116 : Index := Scalar.indexCast arg12
  ![v116.toNat]
def k0_off13 (k0_t3 : Fin k0_t3_loop.trips) : Fin 1 → Nat :=
  let c0_i32_39 : BitVec 32 := 0#32
  let c1_i32_41 : BitVec 32 := 1#32
  let arg12 : BitVec 32 := Scf.iv c0_i32_39 c1_i32_41 k0_t3
  let c1_i32_56 : BitVec 32 := 1#32
  let v119 : BitVec 32 := Scalar.addi arg12 c1_i32_56
  let v120 : Index := Scalar.indexCast v119
  ![v120.toNat]
@[reducible] def k0_t4_loop (v117 : BitVec 32) (v121 : BitVec 32) : Scf.Loop 32 :=
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_66 : BitVec 32 := 1#32
  ⟨v118, v135, c1_i32_66⟩

def k0_off14 (v117 : BitVec 32) (v121 : BitVec 32) (k0_t4 : Fin (k0_t4_loop v117 v121).trips) : Fin 3 → Nat :=
  let c0_i32_71 : BitVec 32 := 0#32
  let v142 : Index := Scalar.indexCast c0_i32_71
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v143 : Index := Scalar.indexCast v141
  let c0_72 : Index := 0#32
  ![0, v143.toNat, 0]
def k0_off15 (v117 : BitVec 32) (v121 : BitVec 32) (k0_t4 : Fin (k0_t4_loop v117 v121).trips) : Fin 3 → Nat :=
  let c0_i32_73 : BitVec 32 := 0#32
  let v146 : Index := Scalar.indexCast c0_i32_73
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v147 : Index := Scalar.indexCast v141
  let c16_74 : Index := 16#32
  ![0, v147.toNat, 16]
def k0_off16 (v117 : BitVec 32) (v121 : BitVec 32) (k0_t4 : Fin (k0_t4_loop v117 v121).trips) : Fin 3 → Nat :=
  let c0_i32_75 : BitVec 32 := 0#32
  let v150 : Index := Scalar.indexCast c0_i32_75
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v151 : Index := Scalar.indexCast v141
  let c32 : Index := 32#32
  ![0, v151.toNat, 32]
def k0_off17 (v117 : BitVec 32) (v121 : BitVec 32) (k0_t4 : Fin (k0_t4_loop v117 v121).trips) : Fin 3 → Nat :=
  let c0_i32_76 : BitVec 32 := 0#32
  let v154 : Index := Scalar.indexCast c0_i32_76
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v155 : Index := Scalar.indexCast v141
  let c48 : Index := 48#32
  ![0, v155.toNat, 48]
def k0_off18 (v117 : BitVec 32) (v121 : BitVec 32) (k0_t4 : Fin (k0_t4_loop v117 v121).trips) : Fin 3 → Nat :=
  let c0_i32_77 : BitVec 32 := 0#32
  let v158 : Index := Scalar.indexCast c0_i32_77
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v159 : Index := Scalar.indexCast v141
  let c64 : Index := 64#32
  ![0, v159.toNat, 64]
def k0_off19 (v117 : BitVec 32) (v121 : BitVec 32) (k0_t4 : Fin (k0_t4_loop v117 v121).trips) : Fin 3 → Nat :=
  let c0_i32_78 : BitVec 32 := 0#32
  let v162 : Index := Scalar.indexCast c0_i32_78
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v163 : Index := Scalar.indexCast v141
  let c80 : Index := 80#32
  ![0, v163.toNat, 80]
def k0_off20 (v117 : BitVec 32) (v121 : BitVec 32) (k0_t4 : Fin (k0_t4_loop v117 v121).trips) : Fin 3 → Nat :=
  let c0_i32_79 : BitVec 32 := 0#32
  let v166 : Index := Scalar.indexCast c0_i32_79
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v167 : Index := Scalar.indexCast v141
  let c96 : Index := 96#32
  ![0, v167.toNat, 96]
def k0_off21 (v117 : BitVec 32) (v121 : BitVec 32) (k0_t4 : Fin (k0_t4_loop v117 v121).trips) : Fin 3 → Nat :=
  let c0_i32_80 : BitVec 32 := 0#32
  let v170 : Index := Scalar.indexCast c0_i32_80
  let c0_i32_55 : BitVec 32 := 0#32
  let v118 : BitVec 32 := Scalar.maxsi v117 c0_i32_55
  let c1_i32_66 : BitVec 32 := 1#32
  let arg14 : BitVec 32 := Scf.iv v118 c1_i32_66 k0_t4
  let c0_i32_70 : BitVec 32 := 0#32
  let v141 : BitVec 32 := Scalar.subi arg14 c0_i32_70
  let v171 : Index := Scalar.indexCast v141
  let c112 : Index := 112#32
  ![0, v171.toNat, 112]
@[reducible] def k0_t5_loop (v117 : BitVec 32) (v121 : BitVec 32) : Scf.Loop 32 :=
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let v132 : BitVec 32 := Scalar.addi v118 v131
  let c1_i32_67 : BitVec 32 := 1#32
  ⟨v135, v132, c1_i32_67⟩
def k0_off22 (v117 : BitVec 32) (v121 : BitVec 32) (k0_t5 : Fin (k0_t5_loop v117 v121).trips) : Fin 3 → Nat :=
  let c0_i32_71 : BitVec 32 := 0#32
  let v142 : Index := Scalar.indexCast c0_i32_71
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v143 : Index := Scalar.indexCast v141
  let c0_72 : Index := 0#32
  ![0, v143.toNat, 0]
def k0_off23 (v117 : BitVec 32) (v121 : BitVec 32) (k0_t5 : Fin (k0_t5_loop v117 v121).trips) : Fin 3 → Nat :=
  let c0_i32_73 : BitVec 32 := 0#32
  let v146 : Index := Scalar.indexCast c0_i32_73
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v147 : Index := Scalar.indexCast v141
  let c16_74 : Index := 16#32
  ![0, v147.toNat, 16]
def k0_off24 (v117 : BitVec 32) (v121 : BitVec 32) (k0_t5 : Fin (k0_t5_loop v117 v121).trips) : Fin 3 → Nat :=
  let c0_i32_75 : BitVec 32 := 0#32
  let v150 : Index := Scalar.indexCast c0_i32_75
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v151 : Index := Scalar.indexCast v141
  let c32 : Index := 32#32
  ![0, v151.toNat, 32]
def k0_off25 (v117 : BitVec 32) (v121 : BitVec 32) (k0_t5 : Fin (k0_t5_loop v117 v121).trips) : Fin 3 → Nat :=
  let c0_i32_76 : BitVec 32 := 0#32
  let v154 : Index := Scalar.indexCast c0_i32_76
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v155 : Index := Scalar.indexCast v141
  let c48 : Index := 48#32
  ![0, v155.toNat, 48]
def k0_off26 (v117 : BitVec 32) (v121 : BitVec 32) (k0_t5 : Fin (k0_t5_loop v117 v121).trips) : Fin 3 → Nat :=
  let c0_i32_77 : BitVec 32 := 0#32
  let v158 : Index := Scalar.indexCast c0_i32_77
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v159 : Index := Scalar.indexCast v141
  let c64 : Index := 64#32
  ![0, v159.toNat, 64]
def k0_off27 (v117 : BitVec 32) (v121 : BitVec 32) (k0_t5 : Fin (k0_t5_loop v117 v121).trips) : Fin 3 → Nat :=
  let c0_i32_78 : BitVec 32 := 0#32
  let v162 : Index := Scalar.indexCast c0_i32_78
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v163 : Index := Scalar.indexCast v141
  let c80 : Index := 80#32
  ![0, v163.toNat, 80]
def k0_off28 (v117 : BitVec 32) (v121 : BitVec 32) (k0_t5 : Fin (k0_t5_loop v117 v121).trips) : Fin 3 → Nat :=
  let c0_i32_79 : BitVec 32 := 0#32
  let v166 : Index := Scalar.indexCast c0_i32_79
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v167 : Index := Scalar.indexCast v141
  let c96 : Index := 96#32
  ![0, v167.toNat, 96]
def k0_off29 (v117 : BitVec 32) (v121 : BitVec 32) (k0_t5 : Fin (k0_t5_loop v117 v121).trips) : Fin 3 → Nat :=
  let c0_i32_80 : BitVec 32 := 0#32
  let v170 : Index := Scalar.indexCast c0_i32_80
  let c0_i32_55 : BitVec 32 := 0#32
  let v118 : BitVec 32 := Scalar.maxsi v117 c0_i32_55
  let c288_i32_57 : BitVec 32 := 288#32
  let v122 : BitVec 32 := Scalar.minsi v121 c288_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t5
  let c0_i32_70 : BitVec 32 := 0#32
  let v141 : BitVec 32 := Scalar.subi arg14 c0_i32_70
  let v171 : Index := Scalar.indexCast v141
  let c112 : Index := 112#32
  ![0, v171.toNat, 112]

def k0_chk3 (v117 : BitVec 32) (v121 : BitVec 32) : Prop :=
  ((k0_t4_loop v117 v121).OK) ∧
  (∀ k0_t4 : Fin (k0_t4_loop v117 v121).trips, ∀ a, (k0_off14 v117 v121 k0_t4) a + S1x1x16.size a ≤ S2x288x128.size a) ∧
  (∀ k0_t4 : Fin (k0_t4_loop v117 v121).trips, ∀ a, (k0_off15 v117 v121 k0_t4) a + S1x1x16.size a ≤ S2x288x128.size a) ∧
  (∀ k0_t4 : Fin (k0_t4_loop v117 v121).trips, ∀ a, (k0_off16 v117 v121 k0_t4) a + S1x1x16.size a ≤ S2x288x128.size a) ∧
  (∀ k0_t4 : Fin (k0_t4_loop v117 v121).trips, ∀ a, (k0_off17 v117 v121 k0_t4) a + S1x1x16.size a ≤ S2x288x128.size a) ∧
  (∀ k0_t4 : Fin (k0_t4_loop v117 v121).trips, ∀ a, (k0_off18 v117 v121 k0_t4) a + S1x1x16.size a ≤ S2x288x128.size a) ∧
  (∀ k0_t4 : Fin (k0_t4_loop v117 v121).trips, ∀ a, (k0_off19 v117 v121 k0_t4) a + S1x1x16.size a ≤ S2x288x128.size a) ∧
  (∀ k0_t4 : Fin (k0_t4_loop v117 v121).trips, ∀ a, (k0_off20 v117 v121 k0_t4) a + S1x1x16.size a ≤ S2x288x128.size a) ∧
  (∀ k0_t4 : Fin (k0_t4_loop v117 v121).trips, ∀ a, (k0_off21 v117 v121 k0_t4) a + S1x1x16.size a ≤ S2x288x128.size a) ∧
  ((k0_t5_loop v117 v121).OK) ∧
  (∀ k0_t5 : Fin (k0_t5_loop v117 v121).trips, ∀ a, (k0_off22 v117 v121 k0_t5) a + S1x1x16.size a ≤ S2x288x128.size a) ∧
  (∀ k0_t5 : Fin (k0_t5_loop v117 v121).trips, ∀ a, (k0_off23 v117 v121 k0_t5) a + S1x1x16.size a ≤ S2x288x128.size a) ∧
  (∀ k0_t5 : Fin (k0_t5_loop v117 v121).trips, ∀ a, (k0_off24 v117 v121 k0_t5) a + S1x1x16.size a ≤ S2x288x128.size a) ∧
  (∀ k0_t5 : Fin (k0_t5_loop v117 v121).trips, ∀ a, (k0_off25 v117 v121 k0_t5) a + S1x1x16.size a ≤ S2x288x128.size a) ∧
  (∀ k0_t5 : Fin (k0_t5_loop v117 v121).trips, ∀ a, (k0_off26 v117 v121 k0_t5) a + S1x1x16.size a ≤ S2x288x128.size a) ∧
  (∀ k0_t5 : Fin (k0_t5_loop v117 v121).trips, ∀ a, (k0_off27 v117 v121 k0_t5) a + S1x1x16.size a ≤ S2x288x128.size a) ∧
  (∀ k0_t5 : Fin (k0_t5_loop v117 v121).trips, ∀ a, (k0_off28 v117 v121 k0_t5) a + S1x1x16.size a ≤ S2x288x128.size a) ∧
  (∀ k0_t5 : Fin (k0_t5_loop v117 v121).trips, ∀ a, (k0_off29 v117 v121 k0_t5) a + S1x1x16.size a ≤ S2x288x128.size a)
theorem k0_t4_ok : ∀ (v117 : BitVec 32) (v121 : BitVec 32) (k0_hw3 : k0_chk3 v117 v121), (k0_t4_loop v117 v121).OK := fun v117 v121 k0_hw3 => k0_hw3.1
theorem k0_off14_inb : ∀ (v117 : BitVec 32) (v121 : BitVec 32) (k0_hw3 : k0_chk3 v117 v121) (k0_t4 : Fin (k0_t4_loop v117 v121).trips), ∀ a, (k0_off14 v117 v121 k0_t4) a + S1x1x16.size a ≤ S2x288x128.size a := fun v117 v121 k0_hw3 k0_t4 => k0_hw3.2.1 k0_t4
theorem k0_off15_inb : ∀ (v117 : BitVec 32) (v121 : BitVec 32) (k0_hw3 : k0_chk3 v117 v121) (k0_t4 : Fin (k0_t4_loop v117 v121).trips), ∀ a, (k0_off15 v117 v121 k0_t4) a + S1x1x16.size a ≤ S2x288x128.size a := fun v117 v121 k0_hw3 k0_t4 => k0_hw3.2.2.1 k0_t4
theorem k0_off16_inb : ∀ (v117 : BitVec 32) (v121 : BitVec 32) (k0_hw3 : k0_chk3 v117 v121) (k0_t4 : Fin (k0_t4_loop v117 v121).trips), ∀ a, (k0_off16 v117 v121 k0_t4) a + S1x1x16.size a ≤ S2x288x128.size a := fun v117 v121 k0_hw3 k0_t4 => k0_hw3.2.2.2.1 k0_t4
theorem k0_off17_inb : ∀ (v117 : BitVec 32) (v121 : BitVec 32) (k0_hw3 : k0_chk3 v117 v121) (k0_t4 : Fin (k0_t4_loop v117 v121).trips), ∀ a, (k0_off17 v117 v121 k0_t4) a + S1x1x16.size a ≤ S2x288x128.size a := fun v117 v121 k0_hw3 k0_t4 => k0_hw3.2.2.2.2.1 k0_t4
theorem k0_off18_inb : ∀ (v117 : BitVec 32) (v121 : BitVec 32) (k0_hw3 : k0_chk3 v117 v121) (k0_t4 : Fin (k0_t4_loop v117 v121).trips), ∀ a, (k0_off18 v117 v121 k0_t4) a + S1x1x16.size a ≤ S2x288x128.size a := fun v117 v121 k0_hw3 k0_t4 => k0_hw3.2.2.2.2.2.1 k0_t4
theorem k0_off19_inb : ∀ (v117 : BitVec 32) (v121 : BitVec 32) (k0_hw3 : k0_chk3 v117 v121) (k0_t4 : Fin (k0_t4_loop v117 v121).trips), ∀ a, (k0_off19 v117 v121 k0_t4) a + S1x1x16.size a ≤ S2x288x128.size a := fun v117 v121 k0_hw3 k0_t4 => k0_hw3.2.2.2.2.2.2.1 k0_t4
theorem k0_off20_inb : ∀ (v117 : BitVec 32) (v121 : BitVec 32) (k0_hw3 : k0_chk3 v117 v121) (k0_t4 : Fin (k0_t4_loop v117 v121).trips), ∀ a, (k0_off20 v117 v121 k0_t4) a + S1x1x16.size a ≤ S2x288x128.size a := fun v117 v121 k0_hw3 k0_t4 => k0_hw3.2.2.2.2.2.2.2.1 k0_t4
theorem k0_off21_inb : ∀ (v117 : BitVec 32) (v121 : BitVec 32) (k0_hw3 : k0_chk3 v117 v121) (k0_t4 : Fin (k0_t4_loop v117 v121).trips), ∀ a, (k0_off21 v117 v121 k0_t4) a + S1x1x16.size a ≤ S2x288x128.size a := fun v117 v121 k0_hw3 k0_t4 => k0_hw3.2.2.2.2.2.2.2.2.1 k0_t4
theorem k0_t5_ok : ∀ (v117 : BitVec 32) (v121 : BitVec 32) (k0_hw3 : k0_chk3 v117 v121), (k0_t5_loop v117 v121).OK := fun v117 v121 k0_hw3 => k0_hw3.2.2.2.2.2.2.2.2.2.1
theorem k0_off22_inb : ∀ (v117 : BitVec 32) (v121 : BitVec 32) (k0_hw3 : k0_chk3 v117 v121) (k0_t5 : Fin (k0_t5_loop v117 v121).trips), ∀ a, (k0_off22 v117 v121 k0_t5) a + S1x1x16.size a ≤ S2x288x128.size a := fun v117 v121 k0_hw3 k0_t5 => k0_hw3.2.2.2.2.2.2.2.2.2.2.1 k0_t5
theorem k0_off23_inb : ∀ (v117 : BitVec 32) (v121 : BitVec 32) (k0_hw3 : k0_chk3 v117 v121) (k0_t5 : Fin (k0_t5_loop v117 v121).trips), ∀ a, (k0_off23 v117 v121 k0_t5) a + S1x1x16.size a ≤ S2x288x128.size a := fun v117 v121 k0_hw3 k0_t5 => k0_hw3.2.2.2.2.2.2.2.2.2.2.2.1 k0_t5
theorem k0_off24_inb : ∀ (v117 : BitVec 32) (v121 : BitVec 32) (k0_hw3 : k0_chk3 v117 v121) (k0_t5 : Fin (k0_t5_loop v117 v121).trips), ∀ a, (k0_off24 v117 v121 k0_t5) a + S1x1x16.size a ≤ S2x288x128.size a := fun v117 v121 k0_hw3 k0_t5 => k0_hw3.2.2.2.2.2.2.2.2.2.2.2.2.1 k0_t5
theorem k0_off25_inb : ∀ (v117 : BitVec 32) (v121 : BitVec 32) (k0_hw3 : k0_chk3 v117 v121) (k0_t5 : Fin (k0_t5_loop v117 v121).trips), ∀ a, (k0_off25 v117 v121 k0_t5) a + S1x1x16.size a ≤ S2x288x128.size a := fun v117 v121 k0_hw3 k0_t5 => k0_hw3.2.2.2.2.2.2.2.2.2.2.2.2.2.1 k0_t5
theorem k0_off26_inb : ∀ (v117 : BitVec 32) (v121 : BitVec 32) (k0_hw3 : k0_chk3 v117 v121) (k0_t5 : Fin (k0_t5_loop v117 v121).trips), ∀ a, (k0_off26 v117 v121 k0_t5) a + S1x1x16.size a ≤ S2x288x128.size a := fun v117 v121 k0_hw3 k0_t5 => k0_hw3.2.2.2.2.2.2.2.2.2.2.2.2.2.2.1 k0_t5
theorem k0_off27_inb : ∀ (v117 : BitVec 32) (v121 : BitVec 32) (k0_hw3 : k0_chk3 v117 v121) (k0_t5 : Fin (k0_t5_loop v117 v121).trips), ∀ a, (k0_off27 v117 v121 k0_t5) a + S1x1x16.size a ≤ S2x288x128.size a := fun v117 v121 k0_hw3 k0_t5 => k0_hw3.2.2.2.2.2.2.2.2.2.2.2.2.2.2.2.1 k0_t5
theorem k0_off28_inb : ∀ (v117 : BitVec 32) (v121 : BitVec 32) (k0_hw3 : k0_chk3 v117 v121) (k0_t5 : Fin (k0_t5_loop v117 v121).trips), ∀ a, (k0_off28 v117 v121 k0_t5) a + S1x1x16.size a ≤ S2x288x128.size a := fun v117 v121 k0_hw3 k0_t5 => k0_hw3.2.2.2.2.2.2.2.2.2.2.2.2.2.2.2.2.1 k0_t5
theorem k0_off29_inb : ∀ (v117 : BitVec 32) (v121 : BitVec 32) (k0_hw3 : k0_chk3 v117 v121) (k0_t5 : Fin (k0_t5_loop v117 v121).trips), ∀ a, (k0_off29 v117 v121 k0_t5) a + S1x1x16.size a ≤ S2x288x128.size a := fun v117 v121 k0_hw3 k0_t5 => k0_hw3.2.2.2.2.2.2.2.2.2.2.2.2.2.2.2.2.2 k0_t5

def k0_off30 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v141 : Index := Scalar.indexCast arg12
  let c0_70 : Index := 0#32
  ![v141.toNat, 0]
def k0_off31 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v146 : Index := Scalar.indexCast arg12
  let c16_72 : Index := 16#32
  ![v146.toNat, 16]
def k0_off32 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v151 : Index := Scalar.indexCast arg12
  let c32 : Index := 32#32
  ![v151.toNat, 32]
def k0_off33 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v156 : Index := Scalar.indexCast arg12
  let c48 : Index := 48#32
  ![v156.toNat, 48]
def k0_off34 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v161 : Index := Scalar.indexCast arg12
  let c64 : Index := 64#32
  ![v161.toNat, 64]
def k0_off35 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v166 : Index := Scalar.indexCast arg12
  let c80 : Index := 80#32
  ![v166.toNat, 80]
def k0_off36 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v171 : Index := Scalar.indexCast arg12
  let c96 : Index := 96#32
  ![v171.toNat, 96]
def k0_off37 (k0_t3 : Fin k0_t3_loop.trips) : Fin 2 → Nat :=
  let c0_i32_39 : BitVec 32 := 0#32
  let c1_i32_41 : BitVec 32 := 1#32
  let arg12 : BitVec 32 := Scf.iv c0_i32_39 c1_i32_41 k0_t3
  let v176 : Index := Scalar.indexCast arg12
  let c112 : Index := 112#32
  ![v176.toNat, 112]
@[reducible] def k0_t6_loop : Scf.Loop 32 :=
  let c0_i32_51 : BitVec 32 := 0#32
  let c16_i32_52 : BitVec 32 := 16#32
  let v114 : BitVec 32 := Scalar.addi c0_i32_51 c16_i32_52
  let c1_i32_53 : BitVec 32 := 1#32
  ⟨c0_i32_51, v114, c1_i32_53⟩
def k0_off38 (k0_t6 : Fin k0_t6_loop.trips) : Fin 1 → Nat :=
  let c0_i32_51 : BitVec 32 := 0#32
  let c1_i32_53 : BitVec 32 := 1#32
  let arg12 : BitVec 32 := Scf.iv c0_i32_51 c1_i32_53 k0_t6
  let v116 : Index := Scalar.indexCast arg12
  ![v116.toNat]
def k0_off39 (k0_t6 : Fin k0_t6_loop.trips) : Fin 1 → Nat :=
  let c0_i32_51 : BitVec 32 := 0#32
  let c1_i32_53 : BitVec 32 := 1#32
  let arg12 : BitVec 32 := Scf.iv c0_i32_51 c1_i32_53 k0_t6
  let c1_i32_56 : BitVec 32 := 1#32
  let v119 : BitVec 32 := Scalar.addi arg12 c1_i32_56
  let v120 : Index := Scalar.indexCast v119
  ![v120.toNat]
@[reducible] def k0_t7_loop (v117 : BitVec 32) (v121 : BitVec 32) : Scf.Loop 32 :=
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_66 : BitVec 32 := 1#32
  ⟨v118, v135, c1_i32_66⟩

def k0_off40 (v117 : BitVec 32) (v121 : BitVec 32) (k0_t7 : Fin (k0_t7_loop v117 v121).trips) : Fin 3 → Nat :=
  let c1_i32_71 : BitVec 32 := 1#32
  let v142 : Index := Scalar.indexCast c1_i32_71
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v143 : Index := Scalar.indexCast v141
  let c0_72 : Index := 0#32
  ![1, v143.toNat, 0]
def k0_off41 (v117 : BitVec 32) (v121 : BitVec 32) (k0_t7 : Fin (k0_t7_loop v117 v121).trips) : Fin 3 → Nat :=
  let c1_i32_73 : BitVec 32 := 1#32
  let v146 : Index := Scalar.indexCast c1_i32_73
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v147 : Index := Scalar.indexCast v141
  let c16_74 : Index := 16#32
  ![1, v147.toNat, 16]
def k0_off42 (v117 : BitVec 32) (v121 : BitVec 32) (k0_t7 : Fin (k0_t7_loop v117 v121).trips) : Fin 3 → Nat :=
  let c1_i32_75 : BitVec 32 := 1#32
  let v150 : Index := Scalar.indexCast c1_i32_75
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v151 : Index := Scalar.indexCast v141
  let c32 : Index := 32#32
  ![1, v151.toNat, 32]
def k0_off43 (v117 : BitVec 32) (v121 : BitVec 32) (k0_t7 : Fin (k0_t7_loop v117 v121).trips) : Fin 3 → Nat :=
  let c1_i32_76 : BitVec 32 := 1#32
  let v154 : Index := Scalar.indexCast c1_i32_76
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v155 : Index := Scalar.indexCast v141
  let c48 : Index := 48#32
  ![1, v155.toNat, 48]
def k0_off44 (v117 : BitVec 32) (v121 : BitVec 32) (k0_t7 : Fin (k0_t7_loop v117 v121).trips) : Fin 3 → Nat :=
  let c1_i32_77 : BitVec 32 := 1#32
  let v158 : Index := Scalar.indexCast c1_i32_77
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v159 : Index := Scalar.indexCast v141
  let c64 : Index := 64#32
  ![1, v159.toNat, 64]
def k0_off45 (v117 : BitVec 32) (v121 : BitVec 32) (k0_t7 : Fin (k0_t7_loop v117 v121).trips) : Fin 3 → Nat :=
  let c1_i32_78 : BitVec 32 := 1#32
  let v162 : Index := Scalar.indexCast c1_i32_78
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v163 : Index := Scalar.indexCast v141
  let c80 : Index := 80#32
  ![1, v163.toNat, 80]
def k0_off46 (v117 : BitVec 32) (v121 : BitVec 32) (k0_t7 : Fin (k0_t7_loop v117 v121).trips) : Fin 3 → Nat :=
  let c1_i32_79 : BitVec 32 := 1#32
  let v166 : Index := Scalar.indexCast c1_i32_79
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v167 : Index := Scalar.indexCast v141
  let c96 : Index := 96#32
  ![1, v167.toNat, 96]
def k0_off47 (v117 : BitVec 32) (v121 : BitVec 32) (k0_t7 : Fin (k0_t7_loop v117 v121).trips) : Fin 3 → Nat :=
  let c1_i32_80 : BitVec 32 := 1#32
  let v170 : Index := Scalar.indexCast c1_i32_80
  let c288_i32_55 : BitVec 32 := 288#32
  let v118 : BitVec 32 := Scalar.maxsi v117 c288_i32_55
  let c1_i32_66 : BitVec 32 := 1#32
  let arg14 : BitVec 32 := Scf.iv v118 c1_i32_66 k0_t7
  let c288_i32_70 : BitVec 32 := 288#32
  let v141 : BitVec 32 := Scalar.subi arg14 c288_i32_70
  let v171 : Index := Scalar.indexCast v141
  let c112 : Index := 112#32
  ![1, v171.toNat, 112]
@[reducible] def k0_t8_loop (v117 : BitVec 32) (v121 : BitVec 32) : Scf.Loop 32 :=
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let v132 : BitVec 32 := Scalar.addi v118 v131
  let c1_i32_67 : BitVec 32 := 1#32
  ⟨v135, v132, c1_i32_67⟩
def k0_off48 (v117 : BitVec 32) (v121 : BitVec 32) (k0_t8 : Fin (k0_t8_loop v117 v121).trips) : Fin 3 → Nat :=
  let c1_i32_71 : BitVec 32 := 1#32
  let v142 : Index := Scalar.indexCast c1_i32_71
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v143 : Index := Scalar.indexCast v141
  let c0_72 : Index := 0#32
  ![1, v143.toNat, 0]
def k0_off49 (v117 : BitVec 32) (v121 : BitVec 32) (k0_t8 : Fin (k0_t8_loop v117 v121).trips) : Fin 3 → Nat :=
  let c1_i32_73 : BitVec 32 := 1#32
  let v146 : Index := Scalar.indexCast c1_i32_73
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v147 : Index := Scalar.indexCast v141
  let c16_74 : Index := 16#32
  ![1, v147.toNat, 16]
def k0_off50 (v117 : BitVec 32) (v121 : BitVec 32) (k0_t8 : Fin (k0_t8_loop v117 v121).trips) : Fin 3 → Nat :=
  let c1_i32_75 : BitVec 32 := 1#32
  let v150 : Index := Scalar.indexCast c1_i32_75
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v151 : Index := Scalar.indexCast v141
  let c32 : Index := 32#32
  ![1, v151.toNat, 32]
def k0_off51 (v117 : BitVec 32) (v121 : BitVec 32) (k0_t8 : Fin (k0_t8_loop v117 v121).trips) : Fin 3 → Nat :=
  let c1_i32_76 : BitVec 32 := 1#32
  let v154 : Index := Scalar.indexCast c1_i32_76
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v155 : Index := Scalar.indexCast v141
  let c48 : Index := 48#32
  ![1, v155.toNat, 48]
def k0_off52 (v117 : BitVec 32) (v121 : BitVec 32) (k0_t8 : Fin (k0_t8_loop v117 v121).trips) : Fin 3 → Nat :=
  let c1_i32_77 : BitVec 32 := 1#32
  let v158 : Index := Scalar.indexCast c1_i32_77
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v159 : Index := Scalar.indexCast v141
  let c64 : Index := 64#32
  ![1, v159.toNat, 64]
def k0_off53 (v117 : BitVec 32) (v121 : BitVec 32) (k0_t8 : Fin (k0_t8_loop v117 v121).trips) : Fin 3 → Nat :=
  let c1_i32_78 : BitVec 32 := 1#32
  let v162 : Index := Scalar.indexCast c1_i32_78
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v163 : Index := Scalar.indexCast v141
  let c80 : Index := 80#32
  ![1, v163.toNat, 80]
def k0_off54 (v117 : BitVec 32) (v121 : BitVec 32) (k0_t8 : Fin (k0_t8_loop v117 v121).trips) : Fin 3 → Nat :=
  let c1_i32_79 : BitVec 32 := 1#32
  let v166 : Index := Scalar.indexCast c1_i32_79
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v167 : Index := Scalar.indexCast v141
  let c96 : Index := 96#32
  ![1, v167.toNat, 96]
def k0_off55 (v117 : BitVec 32) (v121 : BitVec 32) (k0_t8 : Fin (k0_t8_loop v117 v121).trips) : Fin 3 → Nat :=
  let c1_i32_80 : BitVec 32 := 1#32
  let v170 : Index := Scalar.indexCast c1_i32_80
  let c288_i32_55 : BitVec 32 := 288#32
  let v118 : BitVec 32 := Scalar.maxsi v117 c288_i32_55
  let c576_i32_57 : BitVec 32 := 576#32
  let v122 : BitVec 32 := Scalar.minsi v121 c576_i32_57
  let v131 : BitVec 32 := Scalar.subi v122 v118
  let c1_i32_65 : BitVec 32 := 1#32
  let v133 : BitVec 32 := Scalar.divsi v131 c1_i32_65
  let v134 : BitVec 32 := Scalar.muli v133 c1_i32_65
  let v135 : BitVec 32 := Scalar.addi v118 v134
  let c1_i32_67 : BitVec 32 := 1#32
  let arg14 : BitVec 32 := Scf.iv v135 c1_i32_67 k0_t8
  let c288_i32_70 : BitVec 32 := 288#32
  let v141 : BitVec 32 := Scalar.subi arg14 c288_i32_70
  let v171 : Index := Scalar.indexCast v141
  let c112 : Index := 112#32
  ![1, v171.toNat, 112]

def k0_chk4 (v117 : BitVec 32) (v121 : BitVec 32) : Prop :=
  ((k0_t7_loop v117 v121).OK) ∧
  (∀ k0_t7 : Fin (k0_t7_loop v117 v121).trips, ∀ a, (k0_off40 v117 v121 k0_t7) a + S1x1x16.size a ≤ S2x288x128.size a) ∧
  (∀ k0_t7 : Fin (k0_t7_loop v117 v121).trips, ∀ a, (k0_off41 v117 v121 k0_t7) a + S1x1x16.size a ≤ S2x288x128.size a) ∧
  (∀ k0_t7 : Fin (k0_t7_loop v117 v121).trips, ∀ a, (k0_off42 v117 v121 k0_t7) a + S1x1x16.size a ≤ S2x288x128.size a) ∧
  (∀ k0_t7 : Fin (k0_t7_loop v117 v121).trips, ∀ a, (k0_off43 v117 v121 k0_t7) a + S1x1x16.size a ≤ S2x288x128.size a) ∧
  (∀ k0_t7 : Fin (k0_t7_loop v117 v121).trips, ∀ a, (k0_off44 v117 v121 k0_t7) a + S1x1x16.size a ≤ S2x288x128.size a) ∧
  (∀ k0_t7 : Fin (k0_t7_loop v117 v121).trips, ∀ a, (k0_off45 v117 v121 k0_t7) a + S1x1x16.size a ≤ S2x288x128.size a) ∧
  (∀ k0_t7 : Fin (k0_t7_loop v117 v121).trips, ∀ a, (k0_off46 v117 v121 k0_t7) a + S1x1x16.size a ≤ S2x288x128.size a) ∧
  (∀ k0_t7 : Fin (k0_t7_loop v117 v121).trips, ∀ a, (k0_off47 v117 v121 k0_t7) a + S1x1x16.size a ≤ S2x288x128.size a) ∧
  ((k0_t8_loop v117 v121).OK) ∧
  (∀ k0_t8 : Fin (k0_t8_loop v117 v121).trips, ∀ a, (k0_off48 v117 v121 k0_t8) a + S1x1x16.size a ≤ S2x288x128.size a) ∧
  (∀ k0_t8 : Fin (k0_t8_loop v117 v121).trips, ∀ a, (k0_off49 v117 v121 k0_t8) a + S1x1x16.size a ≤ S2x288x128.size a) ∧
  (∀ k0_t8 : Fin (k0_t8_loop v117 v121).trips, ∀ a, (k0_off50 v117 v121 k0_t8) a + S1x1x16.size a ≤ S2x288x128.size a) ∧
  (∀ k0_t8 : Fin (k0_t8_loop v117 v121).trips, ∀ a, (k0_off51 v117 v121 k0_t8) a + S1x1x16.size a ≤ S2x288x128.size a) ∧
  (∀ k0_t8 : Fin (k0_t8_loop v117 v121).trips, ∀ a, (k0_off52 v117 v121 k0_t8) a + S1x1x16.size a ≤ S2x288x128.size a) ∧
  (∀ k0_t8 : Fin (k0_t8_loop v117 v121).trips, ∀ a, (k0_off53 v117 v121 k0_t8) a + S1x1x16.size a ≤ S2x288x128.size a) ∧
  (∀ k0_t8 : Fin (k0_t8_loop v117 v121).trips, ∀ a, (k0_off54 v117 v121 k0_t8) a + S1x1x16.size a ≤ S2x288x128.size a) ∧
  (∀ k0_t8 : Fin (k0_t8_loop v117 v121).trips, ∀ a, (k0_off55 v117 v121 k0_t8) a + S1x1x16.size a ≤ S2x288x128.size a)
theorem k0_t7_ok : ∀ (v117 : BitVec 32) (v121 : BitVec 32) (k0_hw4 : k0_chk4 v117 v121), (k0_t7_loop v117 v121).OK := fun v117 v121 k0_hw4 => k0_hw4.1
theorem k0_off40_inb : ∀ (v117 : BitVec 32) (v121 : BitVec 32) (k0_hw4 : k0_chk4 v117 v121) (k0_t7 : Fin (k0_t7_loop v117 v121).trips), ∀ a, (k0_off40 v117 v121 k0_t7) a + S1x1x16.size a ≤ S2x288x128.size a := fun v117 v121 k0_hw4 k0_t7 => k0_hw4.2.1 k0_t7
theorem k0_off41_inb : ∀ (v117 : BitVec 32) (v121 : BitVec 32) (k0_hw4 : k0_chk4 v117 v121) (k0_t7 : Fin (k0_t7_loop v117 v121).trips), ∀ a, (k0_off41 v117 v121 k0_t7) a + S1x1x16.size a ≤ S2x288x128.size a := fun v117 v121 k0_hw4 k0_t7 => k0_hw4.2.2.1 k0_t7
theorem k0_off42_inb : ∀ (v117 : BitVec 32) (v121 : BitVec 32) (k0_hw4 : k0_chk4 v117 v121) (k0_t7 : Fin (k0_t7_loop v117 v121).trips), ∀ a, (k0_off42 v117 v121 k0_t7) a + S1x1x16.size a ≤ S2x288x128.size a := fun v117 v121 k0_hw4 k0_t7 => k0_hw4.2.2.2.1 k0_t7
theorem k0_off43_inb : ∀ (v117 : BitVec 32) (v121 : BitVec 32) (k0_hw4 : k0_chk4 v117 v121) (k0_t7 : Fin (k0_t7_loop v117 v121).trips), ∀ a, (k0_off43 v117 v121 k0_t7) a + S1x1x16.size a ≤ S2x288x128.size a := fun v117 v121 k0_hw4 k0_t7 => k0_hw4.2.2.2.2.1 k0_t7
theorem k0_off44_inb : ∀ (v117 : BitVec 32) (v121 : BitVec 32) (k0_hw4 : k0_chk4 v117 v121) (k0_t7 : Fin (k0_t7_loop v117 v121).trips), ∀ a, (k0_off44 v117 v121 k0_t7) a + S1x1x16.size a ≤ S2x288x128.size a := fun v117 v121 k0_hw4 k0_t7 => k0_hw4.2.2.2.2.2.1 k0_t7
theorem k0_off45_inb : ∀ (v117 : BitVec 32) (v121 : BitVec 32) (k0_hw4 : k0_chk4 v117 v121) (k0_t7 : Fin (k0_t7_loop v117 v121).trips), ∀ a, (k0_off45 v117 v121 k0_t7) a + S1x1x16.size a ≤ S2x288x128.size a := fun v117 v121 k0_hw4 k0_t7 => k0_hw4.2.2.2.2.2.2.1 k0_t7
theorem k0_off46_inb : ∀ (v117 : BitVec 32) (v121 : BitVec 32) (k0_hw4 : k0_chk4 v117 v121) (k0_t7 : Fin (k0_t7_loop v117 v121).trips), ∀ a, (k0_off46 v117 v121 k0_t7) a + S1x1x16.size a ≤ S2x288x128.size a := fun v117 v121 k0_hw4 k0_t7 => k0_hw4.2.2.2.2.2.2.2.1 k0_t7
theorem k0_off47_inb : ∀ (v117 : BitVec 32) (v121 : BitVec 32) (k0_hw4 : k0_chk4 v117 v121) (k0_t7 : Fin (k0_t7_loop v117 v121).trips), ∀ a, (k0_off47 v117 v121 k0_t7) a + S1x1x16.size a ≤ S2x288x128.size a := fun v117 v121 k0_hw4 k0_t7 => k0_hw4.2.2.2.2.2.2.2.2.1 k0_t7
theorem k0_t8_ok : ∀ (v117 : BitVec 32) (v121 : BitVec 32) (k0_hw4 : k0_chk4 v117 v121), (k0_t8_loop v117 v121).OK := fun v117 v121 k0_hw4 => k0_hw4.2.2.2.2.2.2.2.2.2.1
theorem k0_off48_inb : ∀ (v117 : BitVec 32) (v121 : BitVec 32) (k0_hw4 : k0_chk4 v117 v121) (k0_t8 : Fin (k0_t8_loop v117 v121).trips), ∀ a, (k0_off48 v117 v121 k0_t8) a + S1x1x16.size a ≤ S2x288x128.size a := fun v117 v121 k0_hw4 k0_t8 => k0_hw4.2.2.2.2.2.2.2.2.2.2.1 k0_t8
theorem k0_off49_inb : ∀ (v117 : BitVec 32) (v121 : BitVec 32) (k0_hw4 : k0_chk4 v117 v121) (k0_t8 : Fin (k0_t8_loop v117 v121).trips), ∀ a, (k0_off49 v117 v121 k0_t8) a + S1x1x16.size a ≤ S2x288x128.size a := fun v117 v121 k0_hw4 k0_t8 => k0_hw4.2.2.2.2.2.2.2.2.2.2.2.1 k0_t8
theorem k0_off50_inb : ∀ (v117 : BitVec 32) (v121 : BitVec 32) (k0_hw4 : k0_chk4 v117 v121) (k0_t8 : Fin (k0_t8_loop v117 v121).trips), ∀ a, (k0_off50 v117 v121 k0_t8) a + S1x1x16.size a ≤ S2x288x128.size a := fun v117 v121 k0_hw4 k0_t8 => k0_hw4.2.2.2.2.2.2.2.2.2.2.2.2.1 k0_t8
theorem k0_off51_inb : ∀ (v117 : BitVec 32) (v121 : BitVec 32) (k0_hw4 : k0_chk4 v117 v121) (k0_t8 : Fin (k0_t8_loop v117 v121).trips), ∀ a, (k0_off51 v117 v121 k0_t8) a + S1x1x16.size a ≤ S2x288x128.size a := fun v117 v121 k0_hw4 k0_t8 => k0_hw4.2.2.2.2.2.2.2.2.2.2.2.2.2.1 k0_t8
theorem k0_off52_inb : ∀ (v117 : BitVec 32) (v121 : BitVec 32) (k0_hw4 : k0_chk4 v117 v121) (k0_t8 : Fin (k0_t8_loop v117 v121).trips), ∀ a, (k0_off52 v117 v121 k0_t8) a + S1x1x16.size a ≤ S2x288x128.size a := fun v117 v121 k0_hw4 k0_t8 => k0_hw4.2.2.2.2.2.2.2.2.2.2.2.2.2.2.1 k0_t8
theorem k0_off53_inb : ∀ (v117 : BitVec 32) (v121 : BitVec 32) (k0_hw4 : k0_chk4 v117 v121) (k0_t8 : Fin (k0_t8_loop v117 v121).trips), ∀ a, (k0_off53 v117 v121 k0_t8) a + S1x1x16.size a ≤ S2x288x128.size a := fun v117 v121 k0_hw4 k0_t8 => k0_hw4.2.2.2.2.2.2.2.2.2.2.2.2.2.2.2.1 k0_t8
theorem k0_off54_inb : ∀ (v117 : BitVec 32) (v121 : BitVec 32) (k0_hw4 : k0_chk4 v117 v121) (k0_t8 : Fin (k0_t8_loop v117 v121).trips), ∀ a, (k0_off54 v117 v121 k0_t8) a + S1x1x16.size a ≤ S2x288x128.size a := fun v117 v121 k0_hw4 k0_t8 => k0_hw4.2.2.2.2.2.2.2.2.2.2.2.2.2.2.2.2.1 k0_t8
theorem k0_off55_inb : ∀ (v117 : BitVec 32) (v121 : BitVec 32) (k0_hw4 : k0_chk4 v117 v121) (k0_t8 : Fin (k0_t8_loop v117 v121).trips), ∀ a, (k0_off55 v117 v121 k0_t8) a + S1x1x16.size a ≤ S2x288x128.size a := fun v117 v121 k0_hw4 k0_t8 => k0_hw4.2.2.2.2.2.2.2.2.2.2.2.2.2.2.2.2.2 k0_t8

def k0_off56 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v141 : Index := Scalar.indexCast arg12
  let c0_70 : Index := 0#32
  ![v141.toNat, 0]
def k0_off57 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v146 : Index := Scalar.indexCast arg12
  let c16_72 : Index := 16#32
  ![v146.toNat, 16]
def k0_off58 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v151 : Index := Scalar.indexCast arg12
  let c32 : Index := 32#32
  ![v151.toNat, 32]
def k0_off59 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v156 : Index := Scalar.indexCast arg12
  let c48 : Index := 48#32
  ![v156.toNat, 48]
def k0_off60 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v161 : Index := Scalar.indexCast arg12
  let c64 : Index := 64#32
  ![v161.toNat, 64]
def k0_off61 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v166 : Index := Scalar.indexCast arg12
  let c80 : Index := 80#32
  ![v166.toNat, 80]
def k0_off62 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v171 : Index := Scalar.indexCast arg12
  let c96 : Index := 96#32
  ![v171.toNat, 96]
def k0_off63 (k0_t6 : Fin k0_t6_loop.trips) : Fin 2 → Nat :=
  let c0_i32_51 : BitVec 32 := 0#32
  let c1_i32_53 : BitVec 32 := 1#32
  let arg12 : BitVec 32 := Scf.iv c0_i32_51 c1_i32_53 k0_t6
  let v176 : Index := Scalar.indexCast arg12
  let c112 : Index := 112#32
  ![v176.toNat, 112]
def k0_off64 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_55_r1 : BitVec 32 := 0#32
  let c0_i32_56_r1 : BitVec 32 := 0#32
  ![v1.toNat, 0, 0]
abbrev grid1 : Pipeline.Grid := ⟨1, ![7], ![false]⟩

def k1_cond2 (i : grid1.Coords) : BitVec 1 :=
  let arg0 : BitVec 32 := BitVec.ofNat 32 (i 0).val
  let c6_i32 : BitVec 32 := 6#32
  let v27 : BitVec 1 := Scalar.cmpi .eq arg0 c6_i32
  let v28 : BitVec 32 := Scalar.extui v27
  let c0_i32_14 : BitVec 32 := 0#32
  let v29 : BitVec 1 := Scalar.cmpi .ne v28 c0_i32_14
  v29

def cc1_transform_0 (i : grid1.Coords) : Fin 3 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c9_i32 : BitVec 32 := 9#32
  let v0 : BitVec 32 := Scalar.addi c9_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x17x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S32768 : Shape := ⟨1, ![32768]⟩
abbrev S_ : Shape := ⟨0, ![]⟩
abbrev S16x128 : Shape := ⟨2, ![16, 128]⟩
abbrev S32768x1 : Shape := ⟨2, ![32768, 1]⟩
abbrev S16 : Shape := ⟨1, ![16]⟩
abbrev S16x1 : Shape := ⟨2, ![16, 1]⟩

abbrev nBuf : Space → Nat
  | .hbm => 30
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S_, .f32⟩
  | .hbm, ⟨3, _⟩ => ⟨S16x128, .f32⟩
  | .hbm, ⟨4, _⟩ => ⟨S32768x1, .i32⟩
  | .hbm, ⟨5, _⟩ => ⟨S16x128, .f32⟩
  | .hbm, ⟨6, _⟩ => ⟨S_, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S_, .i32⟩
  | .hbm, ⟨21, _⟩ => ⟨S32768, .i32⟩
  | .hbm, ⟨22, _⟩ => ⟨S16, .i32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16x1, .f32⟩
  | .hbm, ⟨28, _⟩ => ⟨S16x128, .f32⟩
  | .hbm, ⟨29, _⟩ => ⟨S16x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Setup.lean ====
/-
  The kernel as the launch theorem sees it: the SparseCore call's configuration, the ghost state, the coordinates of a
  tile, and the arrays, scratch buffers and semaphores a tile works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.LoopRemainder
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library. -/
abbrev EH : Emb UH (MT nD τ sig (HIx 1) (Elt F) ℕ UU ℕ) := embL
/-- The two pipelines' rounds library. -/
def EP : Emb UP (MT nD τ sig (HIx 1) (Elt F) ℕ UU ℕ) :=
  (Emb.inl.trans (Emb.inr : Emb (UP × Counters) UU)).trans (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

variable (m : (ℓ : Loc nD τ sig) → Buf (Elt F) ℓ) (ρ : Dev nD → PrngReg)

abbrev flatLoc (d : Dev nD) : Loc nD τ sig := (SparseCore.T d).loc main_arg0
abbrev idsLoc (d : Dev nD) : Loc nD τ sig := (SparseCore.T d).loc main_arg1
abbrev psLoc (d : Dev nD) : Loc nD τ sig := (SparseCore.T d).loc main_v0

-- the call's memrefs, spelt as the body table passes them
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)

/-! ## A tile's coordinates -/

abbrev cV (L : grid0.Coords) : Fin τ.nSC := (L 0).castLE hcore0
abbrev jV (L : grid0.Coords) : Fin τ.nSub := (L 1).castLE hsub0
/-- The vector subcore's thread at coordinates `L`. -/
abbrev tV (d : Dev nD) (L : grid0.Coords) : Thread nD τ := V d (cV L) (jV L)

/-- The coordinates (SparseCore `c`, tile `s`). -/
def coordsV (c : Fin (grid0.bound 0)) (s : Fin (grid0.bound 1)) : grid0.Coords :=
  fun | 0 => c | 1 => s | ⟨_ + 2, h⟩ => absurd h (Nat.not_lt.2 (Nat.le_add_left _ _))

/-- The number of the worker at coordinates `L`: twice the tile plus the SparseCore. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The worker's rows of the partial sums, as its write-out names them. -/
abbrev psTile (L : grid0.Coords) : Memref sig .scVector .hbm S17x128 .f32 :=
  ((psM).slice (Rect.unit (s := S32x17x128) (k0_off64 L) S1x17x128.size (k0_off64_inb L)) (fun _ => rfl)).squeeze S17x128 squeezes_S1x17x128_S17x128

/-- The elements of the partial sums the worker writes. -/
abbrev psSet (L : grid0.Coords) : Finset S32x17x128.Idx := (psTile L).view.set

/-- They are those whose first coordinate is the worker's number. -/
theorem mem_psSet (L : grid0.Coords) (x : S32x17x128.Idx) : x ∈ psSet L ↔ (x 0).val = wid L := by
  show x ∈ (((psM).view.slice (Rect.unit (s := S32x17x128) (k0_off64 L) S1x17x128.size (k0_off64_inb L))).reshape S17x128 squeezes_S1x17x128_S17x128.numel_eq).set ↔ _
  rw [View.set_reshape]
  show x ∈ ((View.whole main_v0_scv).slice (Rect.unit (s := S32x17x128) (k0_off64 L) S1x17x128.size (k0_off64_inb L))).set ↔ _
  rw [View.set_slice_whole, Rect.mem_set_unit]
  rw [show k0_off64 L = ![2 * (L 1).val + (L 0).val, 0, 0] from k0_off64_eq L]
  have h1 : (x 1).val < 17 := (x 1).isLt
  have h2 : (x 2).val < 128 := (x 2).isLt
  constructor
  · intro h
    have h0 : 2 * (L 1).val + (L 0).val ≤ (x 0).val ∧ (x 0).val < 2 * (L 1).val + (L 0).val + 1 := h 0
    unfold wid; omega
  · intro h a
    unfold wid at h
    match a with
    | 0 => show 2 * (L 1).val + (L 0).val ≤ (x 0).val ∧ (x 0).val < 2 * (L 1).val + (L 0).val + 1; omega
    | 1 => show 0 ≤ (x 1).val ∧ (x 1).val < 0 + 17; omega
    | 2 => show 0 ≤ (x 2).val ∧ (x 2).val < 0 + 128; omega

/-! ## A tile's semaphores and scratch buffers -/

abbrev cell0 (d : Dev nD) (L : grid0.Coords) : GSem nD τ sig := (tV d L, .dma cc0_scratch5.sem)
abbrev cell1 (d : Dev nD) (L : grid0.Coords) : GSem nD τ sig := (tV d L, .dma cc0_scratch6.sem)
abbrev cell2 (d : Dev nD) (L : grid0.Coords) : GSem nD τ sig := (tV d L, .dma cc0_scoped0.sem)
abbrev cell3 (d : Dev nD) (L : grid0.Coords) : GSem nD τ sig := (tV d L, .dma cc0_scoped1.sem)

/-- A tile's own semaphores: the call's four, and the rest. -/
theorem ownSems0_V (d : Dev nD) (L : grid0.Coords) :
    (ownSems0 (tV d L) : sProp 𝕄)
      = iprop(semVal (cell0 d L) 0 ∗ semVal (cell1 d L) 0 ∗ semVal (cell2 d L) 0 ∗ semVal (cell3 d L) 0
          ∗ bigSep (((((ownCells (tV d L)).erase (cell0 d L)).erase (cell1 d L)).erase (cell2 d L)).erase (cell3 d L))
              fun g => semVal g 0) := by
  unfold SparseCore.Cfg.ownSems0
  have hne {a b : GSem nD τ sig} (h : a.2 ≠ b.2) : a ≠ b := fun e => h (e ▸ rfl)
  rw [SparseCore.bigSep_erase' ((mem_ownCells (g := cell0 d L)).mpr ⟨rfl, by
      show (SemLoc.dma cc0_scratch5.sem : SemLoc sig).isScoped .scVector = true; decide⟩),
    SparseCore.bigSep_erase' (Finset.mem_erase.mpr ⟨hne (show (SemLoc.dma cc0_scratch6.sem : SemLoc sig) ≠ .dma cc0_scratch5.sem by decide), (mem_ownCells (g := cell1 d L)).mpr ⟨rfl, by
      show (SemLoc.dma cc0_scratch6.sem : SemLoc sig).isScoped .scVector = true; decide⟩⟩),
    SparseCore.bigSep_erase' (Finset.mem_erase.mpr ⟨hne (show (SemLoc.dma cc0_scoped0.sem : SemLoc sig) ≠ .dma cc0_scratch6.sem by decide), Finset.mem_erase.mpr ⟨hne (show (SemLoc.dma cc0_scoped0.sem : SemLoc sig) ≠ .dma cc0_scratch5.sem by decide),
      (mem_ownCells (g := cell2 d L)).mpr ⟨rfl, by show (SemLoc.dma cc0_scoped0.sem : SemLoc sig).isScoped .scVector = true; decide⟩⟩⟩),
    SparseCore.bigSep_erase' (Finset.mem_erase.mpr ⟨hne (show (SemLoc.dma cc0_scoped1.sem : SemLoc sig) ≠ .dma cc0_scoped0.sem by decide), Finset.mem_erase.mpr ⟨hne (show (SemLoc.dma cc0_scoped1.sem : SemLoc sig) ≠ .dma cc0_scratch6.sem by decide),
      Finset.mem_erase.mpr ⟨hne (show (SemLoc.dma cc0_scoped1.sem : SemLoc sig) ≠ .dma cc0_scratch5.sem by decide),
      (mem_ownCells (g := cell3 d L)).mpr ⟨rfl, by show (SemLoc.dma cc0_scoped1.sem : SemLoc sig).isScoped .scVector = true; decide⟩⟩⟩⟩)]

/-- A tile's scratch buffer `b` as a device array. -/
abbrev dref (L : grid0.Coords) (b : Ref sig .scVector) : DevRef τ sig := (Proc.scVector (cV L) (jV L)).devRef b

/-- A tile's own buffers: the call's five scratch buffers at some contents, and the rest. -/
theorem ownBufs_V (d : Dev nD) (L : grid0.Coords) :
    (ownBufs (tV d L) : sProp 𝕄)
      = iprop((∃ f, (tV d L).loc cc0_scratch0 ↦{fullShare} f) ∗ (∃ f, (tV d L).loc cc0_scratch1 ↦{fullShare} f)
          ∗ (∃ f, (tV d L).loc cc0_scratch2 ↦{fullShare} f) ∗ (∃ f, (tV d L).loc cc0_scratch3 ↦{fullShare} f)
          ∗ (∃ f, (tV d L).loc cc0_scratch4 ↦{fullShare} f)
          ∗ bigSep ((((((ownRefs (τ := τ) (.scVector (cV L) (jV L))).erase (dref L cc0_scratch0)).erase (dref L cc0_scratch1)).erase
              (dref L cc0_scratch2)).erase (dref L cc0_scratch3)).erase (dref L cc0_scratch4))
              fun b => iprop(∃ f, ((d, b) : Loc nD τ sig) ↦{fullShare} f)) := by
  unfold SparseCore.Cfg.ownBufs
  have hne {a b : Ref sig .scVector} (h : a ≠ b) : dref L a ≠ dref L b := fun e => h (Proc.devRef_injective _ e)
  have hm (b : Ref sig .scVector) (h : (dref L b).owner = .proc (Proc.scVector (cV L) (jV L))) :
      dref L b ∈ ownRefs (τ := τ) (.scVector (cV L) (jV L)) := SparseCore.Cfg.mem_ownRefs_of_owner h
  rw [SparseCore.bigSep_erase' (hm cc0_scratch0 rfl),
    SparseCore.bigSep_erase' (Finset.mem_erase.mpr ⟨hne (show (cc0_scratch1 : Ref sig .scVector) ≠ cc0_scratch0 by decide), hm cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hm cc0_scratch2 rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), hm cc0_scratch3 rfl⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide), hm cc0_scratch4 rfl⟩⟩⟩⟩)]

end Cert.Proof.Seg
-- ==== Proof.Val.lean ====
/-
  What the SparseCore kernel computes, as plain functions: the binary search for the segment boundaries, the sums of
  rows over a range, and the contents of a worker's accumulator after its two chunks.
-/
module

public import proofs.«01_k».proof.Proof.Setup
public import Idealize.ShloMosaic.Lib.WordArith
public import Idealize.ShloMosaic.Lib.ValueIdxCore

@[expose] public section

noncomputable section

namespace Cert.Proof.Seg

open Cert.KernelIdeal Cert.KernelIdeal.Gen

open Idealize.ShloMosaic

variable {F : FTy → Type} [FloatOps F]

/-! ## Words below 577 -/

/-- A word of at most 576 reads the same signed and unsigned. -/
theorem toInt_small {x : BitVec 32} (h : x.toNat ≤ 576) : x.toInt = x.toNat := by
  rw [BitVec.toInt_eq_toNat_cond, if_pos (by omega)]

theorem toNat_max {x c : BitVec 32} (hx : x.toNat ≤ 576) (hc : c.toNat ≤ 576) : (Scalar.maxsi x c).toNat = max x.toNat c.toNat := by
  show (IntOp.maxsi x c).toNat = _
  unfold IntOp.maxsi
  by_cases h : c.slt x = true
  · rw [if_pos h]; rw [BitVec.slt_iff_toInt_lt, toInt_small hx, toInt_small hc] at h; omega
  · rw [if_neg h]; rw [BitVec.slt_iff_toInt_lt, toInt_small hx, toInt_small hc] at h; omega

theorem toNat_min {x c : BitVec 32} (hx : x.toNat ≤ 576) (hc : c.toNat ≤ 576) : (Scalar.minsi x c).toNat = min x.toNat c.toNat :=
  WordArith.toNat_minsi_of_lt x c (by omega) (by omega)

/-- A loop from `a` to `b` in steps of one has a meaning, -/
theorem loop_ok {a b : BitVec 32} (ha : a.toNat ≤ 576) (hb : b.toNat ≤ 576) : Scf.OK a b 1#32 := by
  have h1 : (1#32 : BitVec 32).toInt = 1 := by decide
  refine ⟨by rw [h1]; decide, ?_⟩
  unfold Scf.trips
  rw [h1, toInt_small ha, toInt_small hb]
  have : (2 : Int) ^ (32 - 1) = 2147483648 := by decide
  omega

/-- `b - a` trips (none if `b` is below `a`), -/
theorem loop_trips {a b : BitVec 32} (ha : a.toNat ≤ 576) (hb : b.toNat ≤ 576) : Scf.trips a b 1#32 = b.toNat - a.toNat := by
  have h1 : (1#32 : BitVec 32).toInt = 1 := by decide
  unfold Scf.trips
  rw [h1, toInt_small ha, toInt_small hb]
  omega

/-- and `a + k` for its variable in trip `k`. -/
theorem loop_iv {a : BitVec 32} {k : ℕ} (ha : a.toNat ≤ 576) (hk : k ≤ 576) : (Scf.iv a 1#32 k).toNat = a.toNat + k := by
  unfold Scf.iv
  rw [BitVec.mul_one, BitVec.toNat_add, BitVec.toNat_ofNat]
  omega

/-! ## The binary search -/

/-- The sixteen lane numbers. -/
abbrev lane : IVec S16 32 := iota .scVector S16 32 [0] iota_S16_d0_w32_scVector

theorem lane_toNat (x : S16.Idx) : (lane x).toNat = (x 0).val := by
  have h : (x 0).val < 16 := (x 0).isLt
  show (BitVec.ofNat 32 ([(0 : Fin 1)].foldl (fun n a => n * S16.size a + (x a).val) 0)).toNat = _
  rw [show [(0 : Fin 1)].foldl (fun n a => n * S16.size a + (x a).val) 0 = (x 0).val from by simp]
  rw [BitVec.toNat_ofNat]; omega

/-- The words a gather reads at the positions `v`. -/
def look (I : ℕ → BitVec 32) (v : IVec S16 32) : IVec S16 32 := fun x => I (v x).toNat

/-- The search's two vectors after `n` steps. -/
def srch (F : FTy → Type) [FloatOps F] (I : ℕ → BitVec 32) : ℕ → IVec S16 32 × IVec S16 32
  | 0 => (k0_pay21, k0_pay22)
  | n + 1 =>
    (k0_pay25 (F := F) lane (srch F I n).1 (k0_pay23 (srch F I n).1 (srch F I n).2) (look I (k0_pay23 (srch F I n).1 (srch F I n).2)),
     k0_pay26 (F := F) lane (srch F I n).2 (k0_pay23 (srch F I n).1 (srch F I n).2) (look I (k0_pay23 (srch F I n).1 (srch F I n).2)))

/-- The middle of two vectors of words, as naturals. -/
theorem mid_toNat {lo hi : IVec S16 32} {x : S16.Idx} (hl : (lo x).toNat ≤ 576) (hh : (hi x).toNat ≤ 576) :
    (k0_pay23 lo hi x).toNat = min (((lo x).toNat + (hi x).toNat) / 2) 575 := by
  show (IntOp.minsi (IntOp.shrsi .vector (lo x + hi x) 1#32) 575#32).toNat = _
  have hs : (IntOp.shrsi .vector (lo x + hi x) 1#32).toNat = ((lo x).toNat + (hi x).toNat) / 2 := by
    have ha : (lo x + hi x).toNat = (lo x).toNat + (hi x).toNat := by rw [BitVec.toNat_add]; omega
    unfold IntOp.shrsi
    rw [if_pos (by decide), BitVec.sshiftRight_eq', BitVec.sshiftRight_eq_of_msb_false, BitVec.toNat_ushiftRight, ha,
      show (1#32 : BitVec 32).toNat = 1 from rfl, Nat.shiftRight_eq_div_pow]
    rw [BitVec.msb_eq_false_iff_two_mul_lt, ha]; omega
  rw [WordArith.toNat_minsi_of_lt _ _ (by rw [hs]; omega) (by decide), hs]
  rfl

/-- The middle is a position of the worker's ids, whatever the vectors hold below 577. -/
theorem mid_lt {lo hi : IVec S16 32} {x : S16.Idx} (hl : (lo x).toNat ≤ 576) (hh : (hi x).toNat ≤ 576) :
    (k0_pay23 lo hi x).toNat < 576 := by rw [mid_toNat hl hh]; omega

/-- What holds of a lane's two bounds in every step of the search, after `n` steps: they are in order and at most 576 apart
halved `n` times; below the lower one an id is below the lane's number, at the upper one it is not. -/
structure SrchInv (I : ℕ → BitVec 32) (n : ℕ) (ln : BitVec 32) (lo hi : ℕ) : Prop where
  le : lo ≤ hi
  hi_le : hi ≤ 576
  below : lo = 0 ∨ (I (lo - 1)).slt ln = true
  above : hi = 576 ∨ ¬ (I hi).slt ln = true
  near : (hi - lo) * 2 ^ n ≤ 576

theorem pay25_toNat (lo v u : IVec S16 32) (x : S16.Idx) :
    (k0_pay25 (F := F) lane lo v u x).toNat = if (u x).slt (lane x) = true then (v x + 1#32).toNat else (lo x).toNat := by
  show (Scalar.select (BitVec.ofBool ((u x).slt (lane x))) (v x + 1#32) (lo x)).toNat = _
  cases h : (u x).slt (lane x) <;> rfl

theorem pay26_toNat (hi v u : IVec S16 32) (x : S16.Idx) :
    (k0_pay26 (F := F) lane hi v u x).toNat = if (u x).slt (lane x) = true then (hi x).toNat else (v x).toNat := by
  show (Scalar.select (BitVec.ofBool ((u x).slt (lane x))) (hi x) (v x)).toNat = _
  cases h : (u x).slt (lane x) <;> rfl

theorem srch_inv (I : ℕ → BitVec 32) (n : ℕ) (x : S16.Idx) :
    SrchInv I n (lane x) (((srch F I n).1 x).toNat) (((srch F I n).2 x).toNat) := by
  induction n with
  | zero => exact ⟨Nat.zero_le _, le_refl 576, Or.inl rfl, Or.inl rfl, le_refl 576⟩
  | succ n ih =>
    obtain ⟨hle, hhi, hb, ha, hn⟩ := ih
    simp only [srch]
    rw [pay25_toNat, pay26_toNat]
    generalize srch F I n = s at *
    have hm := mid_toNat (lo := s.1) (hi := s.2) (x := x) (by omega) hhi
    show SrchInv I (n + 1) (lane x)
      (if (I (k0_pay23 s.1 s.2 x).toNat).slt (lane x) = true then (k0_pay23 s.1 s.2 x + 1#32).toNat else _)
      (if (I (k0_pay23 s.1 s.2 x).toNat).slt (lane x) = true then _ else (k0_pay23 s.1 s.2 x).toNat)
    have h1 : (k0_pay23 s.1 s.2 x + 1#32).toNat = (k0_pay23 s.1 s.2 x).toNat + 1 := by
      rw [BitVec.toNat_add, show (1#32 : BitVec 32).toNat = 1 from rfl]; omega
    rw [h1]
    generalize (k0_pay23 s.1 s.2 x).toNat = md at *
    generalize (s.1 x).toNat = lo at *
    generalize (s.2 x).toNat = hi at *
    by_cases hc : (I md).slt (lane x) = true
    · rw [if_pos hc, if_pos hc]
      have hmh : md < hi := by
        by_contra hcon
        have : md = hi := by omega
        subst this
        rcases ha with ha | ha
        · omega
        · exact ha hc
      refine ⟨by omega, hhi, Or.inr (by simpa using hc), ha, ?_⟩
      rw [Nat.pow_succ, ← Nat.mul_assoc, Nat.mul_right_comm]
      exact le_trans (Nat.mul_le_mul_right _ (by omega)) hn
    · rw [if_neg hc, if_neg hc]
      have hml : lo ≤ md := by
        by_contra hcon
        rcases hb with hb | hb
        · omega
        · exact hc (by rw [show md = lo - 1 by omega]; exact hb)
      refine ⟨hml, by omega, hb, Or.inr hc, ?_⟩
      rw [Nat.pow_succ, ← Nat.mul_assoc, Nat.mul_right_comm]
      exact le_trans (Nat.mul_le_mul_right _ (by omega)) hn

/-- After ten steps the two bounds meet. -/
theorem srch_done (I : ℕ → BitVec 32) (x : S16.Idx) : ((srch F I 10).1 x).toNat = ((srch F I 10).2 x).toNat := by
  obtain ⟨hle, -, -, -, hn⟩ := srch_inv (F := F) I 10 x
  omega

/-! ## The boundaries -/

/-- Lane `s`. -/
def lix (s : ℕ) (h : s < 16) : S16.Idx := fun | 0 => ⟨s, h⟩

/-- The seventeen boundaries: the search's result for the sixteen segments, then 576. -/
def bnd (F : FTy → Type) [FloatOps F] (I : ℕ → BitVec 32) (s : ℕ) : BitVec 32 :=
  if h : s < 16 then (srch F I 10).1 (lix s h) else 576#32

theorem bnd_le (I : ℕ → BitVec 32) (s : ℕ) : (bnd F I s).toNat ≤ 576 := by
  unfold bnd
  split
  · have h := srch_inv (F := F) I 10 (lix s (by assumption))
    exact le_trans h.le h.hi_le
  · decide

abbrev bn (F : FTy → Type) [FloatOps F] (I : ℕ → BitVec 32) (s : ℕ) : ℕ := (bnd F I s).toNat

/-! ## Sums of rows and the accumulator -/

/-- The zero. -/
abbrev zf : F .f32 := Scalar.ofBits .f32 0x00000000#32

/-- The sum of `n` rows of chunk `ch` from row `lo` on, at column `c`, in the order the loop adds them. -/
def rsum (X : ℕ → ℕ → ℕ → F .f32) (ch lo : ℕ) : ℕ → ℕ → F .f32
  | 0, _ => zf
  | n + 1, c => FloatOps.addf (rsum X ch lo n c) (X ch (lo + n) c)

/-- A row update: `w` is added to row `s`. -/
def addRow (A : ℕ → ℕ → F .f32) (s : ℕ) (w : ℕ → F .f32) : ℕ → ℕ → F .f32 :=
  fun r c => if r = s then FloatOps.addf (A r c) (w c) else A r c

/-- What a trip for segment `s` makes of the accumulator, its rows of chunk `ch` being `lo ≤ row < hi`. -/
def updSeg (X : ℕ → ℕ → ℕ → F .f32) (ch : ℕ) (lo hi s : ℕ) (A : ℕ → ℕ → F .f32) : ℕ → ℕ → F .f32 :=
  if lo < hi then addRow A s (rsum X ch lo (hi - lo)) else A

/-- The first chunk's rows of segment `s`, -/
abbrev lo0 (F : FTy → Type) [FloatOps F] (I : ℕ → BitVec 32) (s : ℕ) : ℕ := bn F I s
abbrev hi0 (F : FTy → Type) [FloatOps F] (I : ℕ → BitVec 32) (s : ℕ) : ℕ := min (bn F I (s + 1)) 288
/-- and the second's, counted from its first row. -/
abbrev lo1 (F : FTy → Type) [FloatOps F] (I : ℕ → BitVec 32) (s : ℕ) : ℕ := max (bn F I s) 288 - 288
abbrev hi1 (F : FTy → Type) [FloatOps F] (I : ℕ → BitVec 32) (s : ℕ) : ℕ := bn F I (s + 1) - 288

/-- The accumulator with the counts in its last row and zeros elsewhere. -/
def accCnt (F : FTy → Type) [FloatOps F] (I : ℕ → BitVec 32) : ℕ → ℕ → F .f32 :=
  fun r c => if r = 16 ∧ c < 16 then FloatOps.sitofp (F := F) .f32 (bnd F I (c + 1) - bnd F I c) else zf

/-- The accumulator after the first chunk's first `n` segments, -/
def acc0 (I : ℕ → BitVec 32) (X : ℕ → ℕ → ℕ → F .f32) : ℕ → ℕ → ℕ → F .f32
  | 0 => accCnt F I
  | n + 1 => updSeg X 0 (lo0 F I n) (hi0 F I n) n (acc0 I X n)

/-- and after the second's. -/
def acc1 (I : ℕ → BitVec 32) (X : ℕ → ℕ → ℕ → F .f32) : ℕ → ℕ → ℕ → F .f32
  | 0 => acc0 I X 16
  | n + 1 => updSeg X 1 (lo1 F I n) (hi1 F I n) n (acc1 I X n)

end Cert.Proof.Seg
-- ==== Proof.Sums.lean ====
/-
  The sums of rows: the loops over a segment's rows in each of the two chunks.
-/
module

public import proofs.«01_k».proof.Proof.Val
public import Idealize.ShloMosaic.Lib.Pipeline.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

/-! ## The row buffer -/

/-- The elements of chunk `ch` in the two-chunk row buffer. -/
def chSet (ch : ℕ) : Finset S2x288x128.Idx := Finset.univ.filter fun x => (x 0).val = ch

theorem mem_chSet {ch : ℕ} {x : S2x288x128.Idx} : x ∈ chSet ch ↔ (x 0).val = ch := by simp [chSet]

/-- The row buffer's contents, as a function of three numbers. -/
abbrev rowF (X : ℕ → ℕ → ℕ → F .f32) : S2x288x128.Idx → F .f32 := fun x => X (x 0).val (x 1).val (x 2).val

/-- A load of sixteen columns of one row of chunk `ch`, the chunk's part of the buffer being held. -/
theorem wp_row {α : Type} (d : Dev nD) (L : grid0.Coords) (X : ℕ → ℕ → ℕ → F .f32) (ch row w : ℕ) {off : Fin 3 → ℕ}
    (hoff : off = ![ch, row, w]) (hin : ∀ a, off a + S1x1x16.size a ≤ S2x288x128.size a)
    {hl : (rowB).view.LoadsAt (Rect.unit (s := S2x288x128) off S1x1x16.size hin).toLoadRect}
    {k : (S1x1x16.Idx → F .f32) → Prog (TpuEff nD τ sig (Elt F) Λ₀ (tV d L).2) α} {Q : α → sProp 𝕄} :
    ((tV d L).loc cc0_scratch4 ↦[chSet ch]{fullShare} (rowF X))
      ⊢ iprop((((tV d L).loc cc0_scratch4 ↦[chSet ch]{fullShare} (rowF X))
            -∗ wp frame (wpE (defs₀ (F := F)) 𝒱₀ (tV d L) none) Set.univ (k fun y => X ch row (w + (y 2).val)) Q)
          -∗ wp frame (wpE (defs₀ (F := F)) 𝒱₀ (tV d L) none) Set.univ
              (.op (.load rowB (Rect.unit (s := S2x288x128) off S1x1x16.size hin).toLoadRect hl) k) Q) := by
  subst hoff
  have e : (fun y : S1x1x16.Idx => X ch row (w + (y 2).val))
      = (rowB).view.readAt (Elt F) (Rect.unit (s := S2x288x128) ![ch, row, w] S1x1x16.size hin).toLoadRect (rowF X) := by
    funext y
    have h0 : (y 0).val < 1 := (y 0).isLt
    have h1 : (y 1).val < 1 := (y 1).isLt
    show _ = X (ch + 1 * (y 0).val) (row + 1 * (y 1).val) (w + 1 * (y 2).val)
    rw [Nat.lt_one_iff.mp h0, Nat.lt_one_iff.mp h1, Nat.mul_zero, Nat.one_mul, Nat.add_zero, Nat.add_zero]
  rw [e]
  refine wp_load 𝒱₀ (tV d L) none Set.univ (m := rowB) (S := chSet ch) ?_
  intro x hx
  rw [mem_chSet]
  obtain ⟨y, hy, rfl⟩ := Finset.mem_map.mp hx
  have h := (Rect.mem_set_unit (s := S2x288x128)).mp hy 0
  have h1 : ch ≤ (y 0).val := h.1
  have h2 : (y 0).val < ch + 1 := h.2
  show (y 0).val = ch
  omega

/-! ## The accumulator -/

/-- The accumulator's contents, as a function of two numbers. -/
abbrev accF (A : ℕ → ℕ → F .f32) : S17x128.Idx → F .f32 := fun x => A (x 0).val (x 1).val

/-- A load of sixteen columns of one row of the accumulator. -/
theorem wp_accLoad {α : Type} (d : Dev nD) (L : grid0.Coords) (A : ℕ → ℕ → F .f32) (row w : ℕ) {off : Fin 2 → ℕ}
    (hoff : off = ![row, w]) {hin : ∀ a, off a + S1x16.size a ≤ S17x128.size a}
    {hl : (accB).view.LoadsAt (Rect.unit (s := S17x128) off S1x16.size hin).toLoadRect}
    {k : (S1x16.Idx → F .f32) → Prog (TpuEff nD τ sig (Elt F) Λ₀ (tV d L).2) α} {Q : α → sProp 𝕄} :
    ((tV d L).loc cc0_scratch3 ↦{fullShare} (accF A))
      ⊢ iprop((((tV d L).loc cc0_scratch3 ↦{fullShare} (accF A))
            -∗ wp frame (wpE (defs₀ (F := F)) 𝒱₀ (tV d L) none) Set.univ (k fun y => A row (w + (y 1).val)) Q)
          -∗ wp frame (wpE (defs₀ (F := F)) 𝒱₀ (tV d L) none) Set.univ
              (.op (.load accB (Rect.unit (s := S17x128) off S1x16.size hin).toLoadRect hl) k) Q) := by
  subst hoff
  have e : (fun y : S1x16.Idx => A row (w + (y 1).val))
      = (accB).view.readAt (Elt F) (Rect.unit (s := S17x128) ![row, w] S1x16.size hin).toLoadRect (accF A) := by
    funext y
    have h0 : (y 0).val < 1 := (y 0).isLt
    show _ = A (row + 1 * (y 0).val) (w + 1 * (y 1).val)
    rw [Nat.lt_one_iff.mp h0, Nat.mul_zero, Nat.one_mul, Nat.add_zero]
  rw [e]
  exact wp_load 𝒱₀ (tV d L) none Set.univ (m := accB) (S := Finset.univ) (Finset.subset_univ _)

/-- A store of sixteen columns of one row: the accumulator then holds any `B` that has the stored values there and is as
before elsewhere. -/
theorem wp_accStore {α : Type} (d : Dev nD) (L : grid0.Coords) (A B : ℕ → ℕ → F .f32) (row w : ℕ) {off : Fin 2 → ℕ}
    (hoff : off = ![row, w]) {hin : ∀ a, off a + S1x16.size a ≤ S17x128.size a} {v : S1x16.Idx → F .f32}
    {hs : ((accB).access (Rect.unit (s := S17x128) off S1x16.size hin)).Stores Finset.univ} {hm}
    {k : PUnit → Prog (TpuEff nD τ sig (Elt F) Λ₀ (tV d L).2) α} {Q : α → sProp 𝕄}
    (hv : ∀ y : S1x16.Idx, v y = B row (w + (y 1).val))
    (hB : ∀ r c, r < 17 → c < 128 → ¬ (r = row ∧ w ≤ c ∧ c < w + 16) → B r c = A r c) :
    ((tV d L).loc cc0_scratch3 ↦{fullShare} (accF A))
      ⊢ iprop((((tV d L).loc cc0_scratch3 ↦{fullShare} (accF B))
            -∗ wp frame (wpE (defs₀ (F := F)) 𝒱₀ (tV d L) none) Set.univ (k ⟨⟩) Q)
          -∗ wp frame (wpE (defs₀ (F := F)) 𝒱₀ (tV d L) none) Set.univ
              (.op (.store accB (Rect.unit (s := S17x128) off S1x16.size hin) v Finset.univ hs hm) k) Q) := by
  subst hoff
  have e : accF B = ((accB).access (Rect.unit (s := S17x128) ![row, w] S1x16.size hin)).write (Elt F) (accF A) v Finset.univ := by
    funext x
    have h0 : (x 0).val < 17 := (x 0).isLt
    have h1 : (x 1).val < 128 := (x 1).isLt
    have hr := View.read_writes_cons_unit (Val := Elt F) (accB).view (accF A) (size := S1x16.size) hin v [] x (rfl : (![row, w] : Fin 2 → ℕ) = ![row, w])
    refine Eq.trans ?_ hr.symm
    split
    · rename_i h
      have ha : row ≤ (x 0).val ∧ (x 0).val < row + 1 := h 0
      rw [hv]
      show B (x 0).val (x 1).val = B row (w + ((x 1).val - w))
      have hb : w ≤ (x 1).val := (h 1).1
      rw [show (x 0).val = row by omega, Nat.add_sub_cancel' hb]
    · rename_i h
      refine hB _ _ h0 h1 fun hc => h fun a => ?_
      match a with
      | 0 => show row ≤ (x 0).val ∧ (x 0).val < row + 1; omega
      | 1 => show w ≤ (x 1).val ∧ (x 1).val < w + 16; omega
  rw [e]
  exact wp_store 𝒱₀ (tV d L) none Set.univ (m := accB) (r := Rect.unit (s := S17x128) ![row, w] S1x16.size hin)
    (Mk := Finset.univ) (S := Finset.univ) (Finset.subset_univ _)

/-- A vector of sixteen as one row of sixteen. -/
theorem cast_row (v : FVec F S16 .f32) (g : ℕ → F .f32) (hv : ∀ x : S16.Idx, v x = g (x 0).val) (y : S1x16.Idx) :
    shapeCast S1x16 v shapeCasts_S16_S1x16 y = g (y 1).val := by
  have e := shapeCast_apply v shapeCasts_S16_S1x16 y (fun | 0 => y 1) (by
    have h0 : (y 0).val < 1 := (y 0).isLt
    rw [Shape.rowMajor_val_two, Shape.rowMajor_val_one]
    show (y 1).val = (y 0).val * 16 + (y 1).val
    omega)
  rw [e, hv]

/-- One row of sixteen as a vector of sixteen. -/
theorem cast_vec (g : ℕ → F .f32) (x : S16.Idx) :
    shapeCast S16 (fun y : S1x16.Idx => g (y 1).val) shapeCasts_S1x16_S16 x = g (x 0).val := by
  rw [shapeCast_apply (fun y : S1x16.Idx => g (y 1).val) shapeCasts_S1x16_S16 x (fun | 0 => ⟨0, by decide⟩ | 1 => x 0) (by
    rw [Shape.rowMajor_val_two, Shape.rowMajor_val_one]
    show 0 * 16 + (x 0).val = (x 0).val
    omega)]

/-- The same of a row of a three-dimensional block. -/
theorem cast_vec3 (g : ℕ → F .f32) (x : S16.Idx) :
    shapeCast S16 (fun y : S1x1x16.Idx => g (y 2).val) shapeCasts_S1x1x16_S16 x = g (x 0).val := by
  rw [shapeCast_apply (fun y : S1x1x16.Idx => g (y 2).val) shapeCasts_S1x1x16_S16 x (fun | 0 => ⟨0, by decide⟩ | 1 => ⟨0, by decide⟩ | 2 => x 0) (by
    rw [Shape.rowMajor_val_three, Shape.rowMajor_val_one]
    show (0 * 1 + 0) * 16 + (x 0).val = (x 0).val
    omega)]

/-- The accumulator once the first `n` columns of `w` are added to row `s`. -/
def addTo (A : ℕ → ℕ → F .f32) (s : ℕ) (w : ℕ → F .f32) (n : ℕ) : ℕ → ℕ → F .f32 :=
  fun r c => if r = s ∧ c < n then FloatOps.addf (A r c) (w c) else A r c

theorem addTo_zero (A : ℕ → ℕ → F .f32) (s : ℕ) (w : ℕ → F .f32) : addTo A s w 0 = A := by
  funext r c; unfold addTo; rw [if_neg (by omega)]

theorem accF_addTo (A : ℕ → ℕ → F .f32) (s : ℕ) (w : ℕ → F .f32) : accF (addTo A s w 128) = accF (addRow A s w) := by
  funext x
  have h1 : (x 1).val < 128 := (x 1).isLt
  show (if _ then _ else _) = (if _ then _ else _)
  by_cases h : (x 0).val = s
  · rw [if_pos h, if_pos ⟨h, h1⟩]
  · rw [if_neg h, if_neg (fun hc => h hc.1)]

/-- Sixteen columns of `w` added to row `s`: two loads and a store. -/
theorem wp_accAdd {α : Type} (d : Dev nD) (L : grid0.Coords) (A : ℕ → ℕ → F .f32) (s : ℕ) (w : ℕ → F .f32) (n : ℕ) {off : Fin 2 → ℕ}
    (hoff : off = ![s, n]) {hin : ∀ a, off a + S1x16.size a ≤ S17x128.size a}
    {hl hl' : (accB).view.LoadsAt (Rect.unit (s := S17x128) off S1x16.size hin).toLoadRect}
    {v : FVec F S16 .f32} (hv : ∀ x : S16.Idx, v x = w (n + (x 0).val))
    {hs : ((accB).access (Rect.unit (s := S17x128) off S1x16.size hin)).Stores Finset.univ} {hm}
    {k : PUnit → Prog (TpuEff nD τ sig (Elt F) Λ₀ (tV d L).2) α} {Q : α → sProp 𝕄} :
    ((tV d L).loc cc0_scratch3 ↦{fullShare} (accF (addTo A s w n)))
      ⊢ iprop((((tV d L).loc cc0_scratch3 ↦{fullShare} (accF (addTo A s w (n + 16))))
            -∗ wp frame (wpE (defs₀ (F := F)) 𝒱₀ (tV d L) none) Set.univ (k ⟨⟩) Q)
          -∗ wp frame (wpE (defs₀ (F := F)) 𝒱₀ (tV d L) none) Set.univ
              (.op (.load accB (Rect.unit (s := S17x128) off S1x16.size hin).toLoadRect hl) fun ld =>
                .op (.load accB (Rect.unit (s := S17x128) off S1x16.size hin).toLoadRect hl') fun _ =>
                .op (.store accB (Rect.unit (s := S17x128) off S1x16.size hin)
                  (shapeCast S1x16 (addf (shapeCast S16 ld shapeCasts_S1x16_S16) v) shapeCasts_S16_S1x16) Finset.univ hs hm) k) Q) := by
  iintro H HK
  iapply (wp_accLoad d L (addTo A s w n) s n hoff) $$ H
  iintro H
  iapply (wp_accLoad d L (addTo A s w n) s n hoff) $$ H
  iintro H
  iapply (wp_accStore d L (addTo A s w n) (addTo A s w (n + 16)) s n hoff ?hv ?hB) $$ H
  case hv =>
    intro y
    have h1 : (y 1).val < 16 := (y 1).isLt
    refine (cast_row _ (fun j => FloatOps.addf (addTo A s w n s (n + j)) (w (n + j))) (fun x => ?_) y).trans ?_
    · show FloatOps.addf (shapeCast S16 _ shapeCasts_S1x16_S16 x) (v x) = _
      rw [cast_vec (fun j => addTo A s w n s (n + j)) x, hv]
    · show FloatOps.addf (addTo A s w n s (n + (y 1).val)) _ = addTo A s w (n + 16) s (n + (y 1).val)
      unfold addTo
      rw [if_neg (by omega), if_pos ⟨rfl, by omega⟩]
  case hB =>
    intro r c _ _ hn
    unfold addTo
    by_cases h : r = s ∧ c < n
    · rw [if_pos h, if_pos ⟨h.1, by omega⟩]
    · rw [if_neg h, if_neg (by omega)]
  iexact HK

/-! ## The boundaries' words -/

/-- The boundaries' buffer. -/
abbrev bndF (F : FTy → Type) [FloatOps F] (I : ℕ → BitVec 32) : S17.Idx → BitVec 32 := fun x => bnd F I (x 0).val

/-- A load of the word `n` of the boundaries. -/
theorem wp_bnd {α : Type} (d : Dev nD) (L : grid0.Coords) (I : ℕ → BitVec 32) (n : ℕ) {off : Fin 1 → ℕ}
    (hoff : off = ![n]) {hin : ∀ a, off a + S1.size a ≤ S17.size a} {h1 hp}
    {k : BitVec 32 → Prog (TpuEff nD τ sig (Elt F) Λ₀ (tV d L).2) α} {Q : α → sProp 𝕄} :
    ((tV d L).loc cc0_scratch1 ↦{fullShare} (bndF F I))
      ⊢ iprop((((tV d L).loc cc0_scratch1 ↦{fullShare} (bndF F I))
            -∗ wp frame (wpE (defs₀ (F := F)) 𝒱₀ (tV d L) none) Set.univ (k (bnd F I n)) Q)
          -∗ wp frame (wpE (defs₀ (F := F)) 𝒱₀ (tV d L) none) Set.univ
              ((smemLoad bndB (Rect.unit (s := S17) off S1.size hin) h1 hp).bind k) Q) := by
  subst hoff
  have e : ∀ y : (Rect.unit (s := S17) ![n] S1.size hin).shape.Idx,
      (bndB).view.readAt (Elt F) (Rect.unit (s := S17) ![n] S1.size hin).toLoadRect (bndF F I) y = bnd F I n := by
    intro y
    have h0 : (y 0).val < 1 := (y 0).isLt
    show bnd F I (n + 1 * (y 0).val) = _
    rw [Nat.lt_one_iff.mp h0, Nat.mul_zero, Nat.add_zero]
  have h := wp_load (Γ := PendingWaitsCtx.empty) (defs := defs₀ (F := F)) 𝒱₀ (tV d L) none Set.univ (m := bndB) (S := Finset.univ) (q := fullShare) (f := bndF F I) (Q := Q)
    (r := (Rect.unit (s := S17) ![n] S1.size hin).toLoadRect) (hl := View.loadsAt_rect (View.loads_smem_one hp h1))
    (k := fun f => k (f (Shape.Idx.first (lt_of_lt_of_eq Nat.one_pos h1.symm)))) (Finset.subset_univ _)
  rw [e] at h
  exact h

end Cert.Proof.Seg
-- ==== Proof.Prefix.lean ====
/-
  The tile's accumulator zeroed, the search for the boundaries, and the boundaries and counts written.
-/
module

public import proofs.«01_k».proof.Proof.Sums
public import Idealize.ShloMosaic.Lib.SparseCore.Ops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

/-! ## The accumulator zeroed -/

/-- The accumulator once the first `n` columns of row `s` are zero. -/
def zeroTo (A : ℕ → ℕ → F .f32) (s n : ℕ) : ℕ → ℕ → F .f32 := fun r c => if r = s ∧ c < n then zf else A r c

/-- The accumulator once the first `s` rows are zero. -/
def zeroRows (A : ℕ → ℕ → F .f32) (s : ℕ) : ℕ → ℕ → F .f32 := fun r c => if r < s then zf else A r c

theorem zeroTo_zero (A : ℕ → ℕ → F .f32) (s : ℕ) : zeroTo A s 0 = A := by
  funext r c; unfold zeroTo; rw [if_neg (by omega)]

theorem zeroTo_all (A : ℕ → ℕ → F .f32) (s : ℕ) : accF (zeroTo (zeroRows A s) s 128) = accF (zeroRows A (s + 1)) := by
  funext x
  have h1 : (x 1).val < 128 := (x 1).isLt
  show (if _ then _ else (if _ then _ else _)) = (if _ then _ else _)
  by_cases h : (x 0).val = s
  · rw [if_pos ⟨h, h1⟩, if_pos (by omega)]
  · rw [if_neg (fun hc => h hc.1)]
    by_cases h' : (x 0).val < s
    · rw [if_pos h', if_pos (by omega)]
    · rw [if_neg h', if_neg (by omega)]

/-- Sixteen columns of a row zeroed. -/
theorem wp_accZero {α : Type} (d : Dev nD) (L : grid0.Coords) (A : ℕ → ℕ → F .f32) (s n : ℕ) {off : Fin 2 → ℕ}
    (hoff : off = ![s, n]) {hin : ∀ a, off a + S1x16.size a ≤ S17x128.size a}
    {v : FVec F S16 .f32} (hv : ∀ x : S16.Idx, v x = zf)
    {hs : ((accB).access (Rect.unit (s := S17x128) off S1x16.size hin)).Stores Finset.univ} {hm}
    {k : PUnit → Prog (TpuEff nD τ sig (Elt F) Λ₀ (tV d L).2) α} {Q : α → sProp 𝕄} :
    ((tV d L).loc cc0_scratch3 ↦{fullShare} (accF (zeroTo A s n)))
      ⊢ iprop((((tV d L).loc cc0_scratch3 ↦{fullShare} (accF (zeroTo A s (n + 16))))
            -∗ wp frame (wpE (defs₀ (F := F)) 𝒱₀ (tV d L) none) Set.univ (k ⟨⟩) Q)
          -∗ wp frame (wpE (defs₀ (F := F)) 𝒱₀ (tV d L) none) Set.univ
              (.op (.store accB (Rect.unit (s := S17x128) off S1x16.size hin)
                  (shapeCast S1x16 v shapeCasts_S16_S1x16) Finset.univ hs hm) k) Q) := by
  refine wp_accStore d L (zeroTo A s n) (zeroTo A s (n + 16)) s n hoff ?_ ?_
  · intro y
    have h1 : (y 1).val < 16 := (y 1).isLt
    rw [cast_row v (fun _ => zf) hv y]
    unfold zeroTo
    rw [if_pos ⟨rfl, by omega⟩]
  · intro r c _ _ hn
    unfold zeroTo
    by_cases h : r = s ∧ c < n
    · rw [if_pos h, if_pos ⟨h.1, by omega⟩]
    · rw [if_neg h, if_neg (by omega)]

/-- One trip of the zeroing loop. -/
theorem k0_t1_step (d : Dev nD) (L : grid0.Coords) (A : ℕ → ℕ → F .f32) (s : Fin k0_t1_loop.trips) (u : BitVec 32) :
    (((tV d L).loc cc0_scratch3 ↦{fullShare} (accF A)) : sProp 𝕄)
      ⊢ wp frame (wpE (defs₀ (F := F)) 𝒱₀ (tV d L) none) Set.univ (k0_t1_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 s u) fun _ =>
          (((tV d L).loc cc0_scratch3 ↦{fullShare} (accF (zeroTo A s.val 128))) : sProp 𝕄) := by
  unfold k0_t1_body
  simp only [Prog.lift, Prog.bind_op, Prog.bind_ret, Prog.pure_eq_ret]
  rw [← zeroTo_zero A s.val]
  iintro H
  rw [zeroTo_zero]
  rw [← zeroTo_zero A s.val]
  iapply (wp_accLoad d L (zeroTo A s.val 0) s.val 0 (k0_off3_eq s)) $$ H; iintro H
  iapply (wp_accZero d L A s.val 0 (k0_off3_eq s) (v := k0_pay13 (F := F)) (fun _ => rfl)) $$ H; iintro H
  iapply (wp_accLoad d L (zeroTo A s.val 16) s.val 16 (k0_off4_eq s)) $$ H; iintro H
  iapply (wp_accZero d L A s.val 16 (k0_off4_eq s) (v := k0_pay14 (F := F)) (fun _ => rfl)) $$ H; iintro H
  iapply (wp_accLoad d L (zeroTo A s.val 32) s.val 32 (k0_off5_eq s)) $$ H; iintro H
  iapply (wp_accZero d L A s.val 32 (k0_off5_eq s) (v := k0_pay15 (F := F)) (fun _ => rfl)) $$ H; iintro H
  iapply (wp_accLoad d L (zeroTo A s.val 48) s.val 48 (k0_off6_eq s)) $$ H; iintro H
  iapply (wp_accZero d L A s.val 48 (k0_off6_eq s) (v := k0_pay16 (F := F)) (fun _ => rfl)) $$ H; iintro H
  iapply (wp_accLoad d L (zeroTo A s.val 64) s.val 64 (k0_off7_eq s)) $$ H; iintro H
  iapply (wp_accZero d L A s.val 64 (k0_off7_eq s) (v := k0_pay17 (F := F)) (fun _ => rfl)) $$ H; iintro H
  iapply (wp_accLoad d L (zeroTo A s.val 80) s.val 80 (k0_off8_eq s)) $$ H; iintro H
  iapply (wp_accZero d L A s.val 80 (k0_off8_eq s) (v := k0_pay18 (F := F)) (fun _ => rfl)) $$ H; iintro H
  iapply (wp_accLoad d L (zeroTo A s.val 96) s.val 96 (k0_off9_eq s)) $$ H; iintro H
  iapply (wp_accZero d L A s.val 96 (k0_off9_eq s) (v := k0_pay19 (F := F)) (fun _ => rfl)) $$ H; iintro H
  iapply (wp_accLoad d L (zeroTo A s.val 112) s.val 112 (k0_off10_eq s)) $$ H; iintro H
  iapply (wp_accZero d L A s.val 112 (k0_off10_eq s) (v := k0_pay20 (F := F)) (fun _ => rfl)) $$ H; iintro H
  rw [wp_ret]
  imodintro
  rw [zeroTo_zero]
  iexact H

/-- The whole zeroing loop: whatever the accumulator held, it holds zeros. -/
theorem k0_t1_all (d : Dev nD) (L : grid0.Coords) (f : S17x128.Idx → F .f32) :
    (((tV d L).loc cc0_scratch3 ↦{fullShare} f) : sProp 𝕄)
      ⊢ wp frame (wpE (defs₀ (F := F)) 𝒱₀ (tV d L) none) Set.univ (Scf.Loop.for k0_t1_loop k0_t1_ok 0#32 (k0_t1_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1)) fun _ =>
          (((tV d L).loc cc0_scratch3 ↦{fullShare} (accF fun _ _ => zf)) : sProp 𝕄) := by
  obtain ⟨A, rfl⟩ : ∃ A : ℕ → ℕ → F .f32, f = accF A :=
    ⟨fun r c => if h : r < 17 ∧ c < 128 then f (fun | 0 => ⟨r, h.1⟩ | 1 => ⟨c, h.2⟩) else zf, by
      funext x
      have h0 : (x 0).val < 17 := (x 0).isLt
      have h1 : (x 1).val < 128 := (x 1).isLt
      show _ = dite _ _ _
      rw [dif_pos ⟨h0, h1⟩]
      congr 1
      funext a
      match a with
      | 0 => rfl
      | 1 => rfl⟩
  iintro H
  iapply (Scf.wp_for frame (wpE (defs₀ (F := F)) 𝒱₀ (tV d L) none) Set.univ _ _ _ _ _ _
    (fun n _ => (((tV d L).loc cc0_scratch3 ↦{fullShare} (accF (zeroRows A n))) : sProp 𝕄)) ?hbody)
  case hbody =>
    intro k acc
    refine (k0_t1_step d L (zeroRows A k.val) k acc).trans (wp_mono frame _ _ fun _ => ?_)
    rw [zeroTo_all]
  isplitl [H]
  · rw [show zeroRows A 0 = A from by funext r c; unfold zeroRows; rw [if_neg (Nat.not_lt_zero r)]]
    iexact H
  iintro %_ H
  rw [show (accF fun _ _ => zf) = accF (zeroRows A k0_t1_loop.trips) from by
    funext x
    have h0 : (x 0).val < 17 := (x 0).isLt
    show zf = if _ then _ else _
    exact (if_pos h0).symm]
  iexact H

/-! ## The search -/

/-- The tile's word buffer. -/
abbrev idsF (I : ℕ → BitVec 32) : S576.Idx → BitVec 32 := fun x => I (x 0).val

theorem gather_ids (I : ℕ → BitVec 32) (v : IVec S16 32) (h : ∀ a x, ((![v] : Fin 1 → IVec S16 32) a x).toNat < S576.size a) :
    loadIdx (F := F) (e := .i32) (s := S576) (idsF I) ![v] h = look I v := rfl

theorem gather_vec (I : ℕ → BitVec 32) (v : IVec S16 32) (h : ∀ a x, ((![v] : Fin 1 → IVec S16 32) a x).toNat < S32.size a) :
    loadIdx (F := F) (e := .i32) (s := S32) (fun x => bnd F I (x 0).val) ![v] h = fun x => bnd F I (v x).toNat := rfl

/-- One step of the search. -/
theorem k0_t2_step (d : Dev nD) (L : grid0.Coords) (I : ℕ → BitVec 32) (n : Fin k0_t2_loop.trips) :
    (((tV d L).loc cc0_scratch0 ↦{fullShare} (idsF I)) : sProp 𝕄)
      ⊢ wp frame (wpE (defs₀ (F := F)) 𝒱₀ (tV d L) none) Set.univ (k0_t2_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 lane k0_pay21 k0_pay22 0#32 n (srch F I n.val)) fun r =>
          iprop(⌜r = srch F I (n.val + 1)⌝ ∗ (((tV d L).loc cc0_scratch0 ↦{fullShare} (idsF I)) : sProp 𝕄)) := by
  have hchk : k0_chk1 (k0_pay23 (srch F I n.val).1 (srch F I n.val).2) := by
    intro a x
    match a with
    | 0 => exact mid_lt ((srch_inv (F := F) I n.val x).le.trans (srch_inv (F := F) I n.val x).hi_le) (srch_inv (F := F) I n.val x).hi_le
  unfold k0_t2_body
  simp only [Prog.lift, Prog.bind_op, Prog.bind_ret, Prog.pure_eq_ret]
  iintro H
  rw [wp_assume_of _ _ _ _ hchk]
  iapply (SparseCore.wp_vectorLoadIdx 𝒱₀ (tV d L) none Set.univ (base := idsB) (S := Finset.univ) (q := fullShare) (Finset.subset_univ _)) $$ H; iintro H
  rw [wp_ret]
  imodintro
  isplitr
  · ipureintro
    rw [Memref.read_access_whole, gather_ids]
    rfl
  · iexact H

/-- The whole search. -/
theorem k0_t2_all (d : Dev nD) (L : grid0.Coords) (I : ℕ → BitVec 32) :
    (((tV d L).loc cc0_scratch0 ↦{fullShare} (idsF I)) : sProp 𝕄)
      ⊢ wp frame (wpE (defs₀ (F := F)) 𝒱₀ (tV d L) none) Set.univ (Scf.Loop.for k0_t2_loop k0_t2_ok (k0_pay21, k0_pay22) (k0_t2_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 lane k0_pay21 k0_pay22 0#32)) fun r =>
          iprop(⌜r = srch F I 10⌝ ∗ (((tV d L).loc cc0_scratch0 ↦{fullShare} (idsF I)) : sProp 𝕄)) := by
  iintro H
  iapply (Scf.wp_for frame (wpE (defs₀ (F := F)) 𝒱₀ (tV d L) none) Set.univ _ _ _ _ _ _
    (fun n acc => iprop(⌜acc = srch F I n⌝ ∗ (((tV d L).loc cc0_scratch0 ↦{fullShare} (idsF I)) : sProp 𝕄))) ?hbody)
  case hbody =>
    intro k acc
    iintro ⟨%e, H⟩
    subst e
    iapply (k0_t2_step d L I k)
    iexact H
  isplitl [H]
  · isplitr
    · ipureintro; rfl
    · iexact H
  iintro %acc ⟨%e, H⟩
  isplitr
  · ipureintro; exact e
  · iexact H

/-! ## The boundaries written -/

/-- The vector buffer of the boundaries. -/
abbrev vecF (F : FTy → Type) [FloatOps F] (I : ℕ → BitVec 32) : S32.Idx → BitVec 32 := fun x => bnd F I (x 0).val

/-- A load of sixteen words of the vector buffer (the value is not used). -/
theorem wp_vecLoad {α : Type} (d : Dev nD) (L : grid0.Coords) (f : S32.Idx → BitVec 32) {off : Fin 1 → ℕ}
    {hin : ∀ a, off a + S16.size a ≤ S32.size a}
    {hl : (vecB).view.LoadsAt (Rect.unit (s := S32) off S16.size hin).toLoadRect}
    {k : (S16.Idx → BitVec 32) → Prog (TpuEff nD τ sig (Elt F) Λ₀ (tV d L).2) α} {Q : α → sProp 𝕄} :
    ((tV d L).loc cc0_scratch2 ↦{fullShare} f)
      ⊢ iprop((((tV d L).loc cc0_scratch2 ↦{fullShare} f)
            -∗ wp frame (wpE (defs₀ (F := F)) 𝒱₀ (tV d L) none) Set.univ (k ((vecB).view.readAt (Elt F) (Rect.unit (s := S32) off S16.size hin).toLoadRect f)) Q)
          -∗ wp frame (wpE (defs₀ (F := F)) 𝒱₀ (tV d L) none) Set.univ
              (.op (.load vecB (Rect.unit (s := S32) off S16.size hin).toLoadRect hl) k) Q) :=
  wp_load 𝒱₀ (tV d L) none Set.univ (m := vecB) (S := Finset.univ) (Finset.subset_univ _)

/-- A store of sixteen words of the vector buffer. -/
theorem wp_vecStore {α : Type} (d : Dev nD) (L : grid0.Coords) (f g : S32.Idx → BitVec 32) (w : ℕ) {off : Fin 1 → ℕ}
    (hoff : off = ![w]) {hin : ∀ a, off a + S16.size a ≤ S32.size a} {v : S16.Idx → BitVec 32}
    {hs : ((vecB).access (Rect.unit (s := S32) off S16.size hin)).Stores Finset.univ} {hm}
    {k : PUnit → Prog (TpuEff nD τ sig (Elt F) Λ₀ (tV d L).2) α} {Q : α → sProp 𝕄}
    (hv : ∀ (x : S32.Idx) (y : S16.Idx), (x 0).val = w + (y 0).val → v y = g x)
    (hg : ∀ x : S32.Idx, ¬ (w ≤ (x 0).val ∧ (x 0).val < w + 16) → g x = f x) :
    ((tV d L).loc cc0_scratch2 ↦{fullShare} f)
      ⊢ iprop((((tV d L).loc cc0_scratch2 ↦{fullShare} g)
            -∗ wp frame (wpE (defs₀ (F := F)) 𝒱₀ (tV d L) none) Set.univ (k ⟨⟩) Q)
          -∗ wp frame (wpE (defs₀ (F := F)) 𝒱₀ (tV d L) none) Set.univ
              (.op (.store vecB (Rect.unit (s := S32) off S16.size hin) v Finset.univ hs hm) k) Q) := by
  subst hoff
  have e : g = ((vecB).access (Rect.unit (s := S32) ![w] S16.size hin)).write (Elt F) f v Finset.univ := by
    funext x
    have hr := View.read_writes_cons_unit (Val := Elt F) (vecB).view f (size := S16.size) hin v [] x (rfl : (![w] : Fin 1 → ℕ) = ![w])
    refine Eq.trans ?_ hr.symm
    split
    · rename_i h
      refine (hv _ _ ?_).symm
      show (x 0).val = w + ((x 0).val - w)
      have hb : w ≤ (x 0).val := (h 0).1
      omega
    · rename_i h
      refine hg _ fun hc => h fun a => ?_
      match a with
      | 0 => exact hc
  rw [e]
  exact wp_store 𝒱₀ (tV d L) none Set.univ (m := vecB) (r := Rect.unit (s := S32) ![w] S16.size hin)
    (Mk := Finset.univ) (S := Finset.univ) (Finset.subset_univ _)

/-- The scalar buffer of the boundaries once the first `n` are written. -/
def bndTo (F : FTy → Type) [FloatOps F] (I : ℕ → BitVec 32) (f : S17.Idx → BitVec 32) (n : ℕ) : S17.Idx → BitVec 32 :=
  fun x => if (x 0).val < n then bnd F I (x 0).val else f x

theorem bndTo_zero (I : ℕ → BitVec 32) (f : S17.Idx → BitVec 32) : bndTo F I f 0 = f := by
  funext x; unfold bndTo; rw [if_neg (Nat.not_lt_zero _)]

theorem bndTo_all (I : ℕ → BitVec 32) (f : S17.Idx → BitVec 32) : bndTo F I f 17 = bndF F I := by
  funext x
  have h0 : (x 0).val < 17 := (x 0).isLt
  show (if _ then _ else _) = _
  rw [if_pos h0]

/-- One boundary's store. -/
theorem bndTo_write (I : ℕ → BitVec 32) (f : S17.Idx → BitVec 32) (n : ℕ)
    {hin : ∀ a, (![n] : Fin 1 → ℕ) a + S1.size a ≤ S17.size a} {w : BitVec 32} (hw : w = bnd F I n) :
    bndTo F I f (n + 1) = ((bndB).access (Rect.unit (s := S17) ![n] S1.size hin)).write (Elt F) (bndTo F I f n) (fun _ => w) Finset.univ := by
  funext x
  have hr := View.read_writes_cons_unit (Val := Elt F) (bndB).view (bndTo F I f n) (size := S1.size) hin (fun _ => w) [] x (rfl : (![n] : Fin 1 → ℕ) = ![n])
  refine Eq.trans ?_ hr.symm
  split
  · rename_i h
    have ha : n ≤ (x 0).val ∧ (x 0).val < n + 1 := h 0
    rw [hw]
    unfold bndTo
    rw [if_pos ha.2, show (x 0).val = n by omega]
  · rename_i h
    have hne : ¬ ((x 0).val = n) := fun hc => h fun a => by
      match a with
      | 0 => show n ≤ (x 0).val ∧ (x 0).val < n + 1; omega
    show bndTo F I f (n + 1) x = bndTo F I f n x
    unfold bndTo
    by_cases h' : (x 0).val < n
    · rw [if_pos h', if_pos (by omega)]
    · rw [if_neg h', if_neg (by omega)]
/-- One boundary written: the word is read and then stored. -/
theorem wp_bndSet {α : Type} (d : Dev nD) (L : grid0.Coords) (I : ℕ → BitVec 32) (f : S17.Idx → BitVec 32) (n : ℕ)
    {hin : ∀ a, (![n] : Fin 1 → ℕ) a + S1.size a ≤ S17.size a} {h1 hp} {w : BitVec 32} (hw : w = bnd F I n)
    {hs : ((bndB).access (Rect.unit (s := S17) ![n] S1.size hin)).Stores Finset.univ} {hm}
    {k : PUnit → Prog (TpuEff nD τ sig (Elt F) Λ₀ (tV d L).2) α} {Q : α → sProp 𝕄} :
    ((tV d L).loc cc0_scratch1 ↦{fullShare} (bndTo F I f n))
      ⊢ iprop((((tV d L).loc cc0_scratch1 ↦{fullShare} (bndTo F I f (n + 1)))
            -∗ wp frame (wpE (defs₀ (F := F)) 𝒱₀ (tV d L) none) Set.univ (k ⟨⟩) Q)
          -∗ wp frame (wpE (defs₀ (F := F)) 𝒱₀ (tV d L) none) Set.univ
              ((smemLoad bndB (Rect.unit (s := S17) ![n] S1.size hin) h1 hp).bind fun _ =>
                .op (.store bndB (Rect.unit (s := S17) ![n] S1.size hin) (fun _ => w) Finset.univ hs hm) k) Q) := by
  have e := bndTo_write (F := F) I f n (hin := hin) hw
  have hl := wp_load (Γ := PendingWaitsCtx.empty) (defs := defs₀ (F := F)) 𝒱₀ (tV d L) none Set.univ (m := bndB) (S := Finset.univ) (q := fullShare) (f := bndTo F I f n) (Q := Q)
    (r := (Rect.unit (s := S17) ![n] S1.size hin).toLoadRect) (hl := View.loadsAt_rect (View.loads_smem_one hp h1))
    (k := fun _ => .op (.store bndB (Rect.unit (s := S17) ![n] S1.size hin) (fun _ => w) Finset.univ hs hm) k) (Finset.subset_univ _)
  have hst := wp_store (Γ := PendingWaitsCtx.empty) (defs := defs₀ (F := F)) 𝒱₀ (tV d L) none Set.univ (m := bndB) (r := Rect.unit (s := S17) ![n] S1.size hin) (w := fun _ => w) (hx := hs) (hm := hm) (k := k) (Q := Q)
    (f := bndTo F I f n) (Mk := Finset.univ) (S := Finset.univ) (Finset.subset_univ _)
  rw [← e] at hst
  iintro H HK
  iapply hl $$ H
  iintro H
  iapply hst $$ H
  iexact HK

/-- The word taken from lane `j` of the search's result. -/
theorem bnd_extract (I : ℕ → BitVec 32) (j : ℕ) (h : j < 16) (hs : S16.Slices ![j] S1) :
    extractAt ![0] (extractStridedSlice S1 ![j] (srch F I 10).1 hs) inpos_S1_p0 = bnd F I j := by
  unfold bnd
  rw [dif_pos h]
  refine congrArg (srch F I 10).1 (funext fun a => ?_)
  match a with
  | 0 => rfl

theorem ext0 (I : ℕ → BitVec 32) : extractAt ![0] (k0_pay30 (srch F I 10).1) inpos_S1_p0 = bnd F I 0 := by
  unfold k0_pay30
  exact bnd_extract (F := F) I 0 (by decide) _

theorem ext1 (I : ℕ → BitVec 32) : extractAt ![0] (k0_pay31 (srch F I 10).1) inpos_S1_p0 = bnd F I 1 := by
  unfold k0_pay31
  exact bnd_extract (F := F) I 1 (by decide) _

theorem ext2 (I : ℕ → BitVec 32) : extractAt ![0] (k0_pay32 (srch F I 10).1) inpos_S1_p0 = bnd F I 2 := by
  unfold k0_pay32
  exact bnd_extract (F := F) I 2 (by decide) _

theorem ext3 (I : ℕ → BitVec 32) : extractAt ![0] (k0_pay33 (srch F I 10).1) inpos_S1_p0 = bnd F I 3 := by
  unfold k0_pay33
  exact bnd_extract (F := F) I 3 (by decide) _

theorem ext4 (I : ℕ → BitVec 32) : extractAt ![0] (k0_pay34 (srch F I 10).1) inpos_S1_p0 = bnd F I 4 := by
  unfold k0_pay34
  exact bnd_extract (F := F) I 4 (by decide) _

theorem ext5 (I : ℕ → BitVec 32) : extractAt ![0] (k0_pay35 (srch F I 10).1) inpos_S1_p0 = bnd F I 5 := by
  unfold k0_pay35
  exact bnd_extract (F := F) I 5 (by decide) _

theorem ext6 (I : ℕ → BitVec 32) : extractAt ![0] (k0_pay36 (srch F I 10).1) inpos_S1_p0 = bnd F I 6 := by
  unfold k0_pay36
  exact bnd_extract (F := F) I 6 (by decide) _

theorem ext7 (I : ℕ → BitVec 32) : extractAt ![0] (k0_pay37 (srch F I 10).1) inpos_S1_p0 = bnd F I 7 := by
  unfold k0_pay37
  exact bnd_extract (F := F) I 7 (by decide) _

theorem ext8 (I : ℕ → BitVec 32) : extractAt ![0] (k0_pay38 (srch F I 10).1) inpos_S1_p0 = bnd F I 8 := by
  unfold k0_pay38
  exact bnd_extract (F := F) I 8 (by decide) _

theorem ext9 (I : ℕ → BitVec 32) : extractAt ![0] (k0_pay39 (srch F I 10).1) inpos_S1_p0 = bnd F I 9 := by
  unfold k0_pay39
  exact bnd_extract (F := F) I 9 (by decide) _

theorem ext10 (I : ℕ → BitVec 32) : extractAt ![0] (k0_pay40 (srch F I 10).1) inpos_S1_p0 = bnd F I 10 := by
  unfold k0_pay40
  exact bnd_extract (F := F) I 10 (by decide) _

theorem ext11 (I : ℕ → BitVec 32) : extractAt ![0] (k0_pay41 (srch F I 10).1) inpos_S1_p0 = bnd F I 11 := by
  unfold k0_pay41
  exact bnd_extract (F := F) I 11 (by decide) _

theorem ext12 (I : ℕ → BitVec 32) : extractAt ![0] (k0_pay42 (srch F I 10).1) inpos_S1_p0 = bnd F I 12 := by
  unfold k0_pay42
  exact bnd_extract (F := F) I 12 (by decide) _

theorem ext13 (I : ℕ → BitVec 32) : extractAt ![0] (k0_pay43 (srch F I 10).1) inpos_S1_p0 = bnd F I 13 := by
  unfold k0_pay43
  exact bnd_extract (F := F) I 13 (by decide) _

theorem ext14 (I : ℕ → BitVec 32) : extractAt ![0] (k0_pay44 (srch F I 10).1) inpos_S1_p0 = bnd F I 14 := by
  unfold k0_pay44
  exact bnd_extract (F := F) I 14 (by decide) _

theorem ext15 (I : ℕ → BitVec 32) : extractAt ![0] (k0_pay45 (srch F I 10).1) inpos_S1_p0 = bnd F I 15 := by
  unfold k0_pay45
  exact bnd_extract (F := F) I 15 (by decide) _

theorem vec_lo (I : ℕ → BitVec 32) (f2 : S32.Idx → BitVec 32) (x : S32.Idx) (y : S16.Idx) (hxy : (x 0).val = 0 + (y 0).val) :
    (srch F I 10).1 y = if (x 0).val < 16 then bnd F I (x 0).val else f2 x := by
  have hy : (y 0).val < 16 := (y 0).isLt
  rw [if_pos (by omega), show (x 0).val = (y 0).val by omega]
  unfold bnd
  rw [dif_pos hy]
  refine congrArg (srch F I 10).1 (funext fun a => ?_)
  match a with
  | 0 => rfl

theorem vec_hi (I : ℕ → BitVec 32) (x : S32.Idx) (y : S16.Idx) (hxy : (x 0).val = 16 + (y 0).val) : k0_pay27 y = vecF F I x := by
  show 576#32 = bnd F I (x 0).val
  unfold bnd
  rw [dif_neg (by omega)]

theorem pay28_toNat (x : S16.Idx) : (k0_pay28 lane x).toNat = (x 0).val + 1 := by
  have hx : (x 0).val < 16 := (x 0).isLt
  show (lane x + 1#32).toNat = _
  rw [BitVec.toNat_add, lane_toNat]
  show ((x 0).val + 1) % 4294967296 = _
  omega

/-- The second gather's indices are in range. -/
theorem chk2_ok : k0_chk2 (k0_pay28 lane) := by
  intro a x
  match a with
  | 0 =>
    have hx : (x 0).val < 16 := (x 0).isLt
    show (k0_pay28 lane x).toNat < 32
    rw [pay28_toNat]; omega

/-- The counts' row: the differences of neighbouring boundaries as floats. -/
theorem cnt_row (I : ℕ → BitVec 32) (h : ∀ a x, ((![k0_pay28 lane] : Fin 1 → IVec S16 32) a x).toNat < S32.size a) (y : S1x16.Idx) :
    shapeCast S1x16 (k0_pay29 (F := F) (srch F I 10).1 (loadIdx (F := F) (e := .i32) (s := S32) (vecF F I) ![k0_pay28 lane] h)) shapeCasts_S16_S1x16 y
      = accCnt F I 16 (0 + (y 1).val) := by
  have h1 : (y 1).val < 16 := (y 1).isLt
  rw [gather_vec, cast_row _ (fun c => FloatOps.sitofp (F := F) .f32 (bnd F I (c + 1) - bnd F I c)) (fun x => ?_) y]
  · unfold accCnt
    rw [if_pos ⟨rfl, by omega⟩, Nat.zero_add]
  · have hx : (x 0).val < 16 := (x 0).isLt
    show FloatOps.sitofp (F := F) .f32 (bnd F I (k0_pay28 lane x).toNat - (srch F I 10).1 x) = _
    rw [pay28_toNat]
    congr 2
    show _ = bnd F I (x 0).val
    unfold bnd
    rw [dif_pos hx]
    refine congrArg (srch F I 10).1 (funext fun a => ?_)
    match a with
    | 0 => rfl

/-- The search, the boundaries' vector, the counts row and the first six boundaries. -/
theorem part4_all (d : Dev nD) (L : grid0.Coords) (I : ℕ → BitVec 32) (f1 : S17.Idx → BitVec 32) (f2 : S32.Idx → BitVec 32) :
    (iprop(((tV d L).loc cc0_scratch0 ↦{fullShare} (idsF I)) ∗ ((tV d L).loc cc0_scratch1 ↦{fullShare} f1) ∗ ((tV d L).loc cc0_scratch2 ↦{fullShare} f2)
        ∗ ((tV d L).loc cc0_scratch3 ↦{fullShare} (accF fun _ _ => zf))) : sProp 𝕄)
      ⊢ wp frame (wpE (defs₀ (F := F)) 𝒱₀ (tV d L) none) Set.univ (k0_part4_skel L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 lane k0_pay21 k0_pay22 0#32) fun v =>
          (iprop(⌜v = (srch F I 10).1⌝ ∗ ((tV d L).loc cc0_scratch0 ↦{fullShare} (idsF I)) ∗ ((tV d L).loc cc0_scratch1 ↦{fullShare} (bndTo F I f1 6)) ∗ ((tV d L).loc cc0_scratch2 ↦{fullShare} (vecF F I))
        ∗ ((tV d L).loc cc0_scratch3 ↦{fullShare} (accF (acc0 I (fun _ _ _ => zf) 0)))) : sProp 𝕄) := by
  unfold k0_part4_skel
  simp only [Prog.lift, Prog.bind_op, Prog.bind_ret, Prog.pure_eq_ret]
  iintro ⟨HI, HB, HV, HA⟩
  rw [wp_bind]
  iapply (wp_wand_r frame _ _)
  isplitl [HI]
  · iapply (k0_t2_all d L I); iexact HI
  iintro %r ⟨%e, HI⟩
  subst e
  iapply (wp_vecLoad d L f2) $$ HV; iintro HV
  iapply (wp_vecStore d L f2 (fun x => if (x 0).val < 16 then bnd F I (x 0).val else f2 x) 0 rfl ?hv1 ?hg1) $$ HV
  case hv1 => exact vec_lo I f2
  case hg1 => exact fun x hx => if_neg (by omega)
  iintro HV
  iapply (wp_vecLoad d L _) $$ HV; iintro HV
  iapply (wp_vecStore d L _ (vecF F I) 16 rfl ?hv2 ?hg2) $$ HV
  case hv2 => exact vec_hi I
  case hg2 =>
    intro x hx
    have hx' : (x 0).val < 32 := (x 0).isLt
    rw [if_pos (by omega)]
  iintro HV
  rw [wp_assume_of _ _ _ _ chk2_ok]
  iapply (SparseCore.wp_vectorLoadIdx 𝒱₀ (tV d L) none Set.univ (base := vecB) (S := Finset.univ) (q := fullShare) (Finset.subset_univ _)) $$ HV; iintro HV
  iapply (wp_accLoad d L (fun _ _ => zf) 16 0 rfl) $$ HA; iintro HA
  iapply (wp_accStore d L (fun _ _ => zf) (accCnt F I) 16 0 rfl ?hv3 ?hB3) $$ HA
  case hv3 =>
    intro y
    have h1 : (y 1).val < 16 := (y 1).isLt
    rw [Memref.read_access_whole]
    exact cnt_row I _ y
  case hB3 =>
    intro r c _ _ hn
    unfold accCnt
    rw [if_neg (by omega)]
  iintro HA
  rw [← bndTo_zero (F := F) I f1]
  iapply (wp_bndSet d L I f1 0 (ext0 (F := F) I)) $$ HB; iintro HB
  iapply (wp_bndSet d L I f1 1 (ext1 (F := F) I)) $$ HB; iintro HB
  iapply (wp_bndSet d L I f1 2 (ext2 (F := F) I)) $$ HB; iintro HB
  iapply (wp_bndSet d L I f1 3 (ext3 (F := F) I)) $$ HB; iintro HB
  iapply (wp_bndSet d L I f1 4 (ext4 (F := F) I)) $$ HB; iintro HB
  iapply (wp_bndSet d L I f1 5 (ext5 (F := F) I)) $$ HB; iintro HB
  rw [wp_ret]
  imodintro
  isplitr; · ipureintro; rfl
  isplitl [HI]; · iexact HI
  isplitl [HB]; · rw [bndTo_zero]; iexact HB
  isplitl [HV]; · iexact HV
  iexact HA

/-- The next ten boundaries. -/
theorem part5_all (d : Dev nD) (L : grid0.Coords) (I : ℕ → BitVec 32) (f1 : S17.Idx → BitVec 32) :
    (((tV d L).loc cc0_scratch1 ↦{fullShare} (bndTo F I f1 6)) : sProp 𝕄)
      ⊢ wp frame (wpE (defs₀ (F := F)) 𝒱₀ (tV d L) none) Set.univ (k0_part5_skel L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 (srch F I 10).1) fun _ =>
          (((tV d L).loc cc0_scratch1 ↦{fullShare} (bndTo F I f1 16)) : sProp 𝕄) := by
  unfold k0_part5_skel
  simp only [Prog.lift, Prog.bind_op, Prog.bind_ret, Prog.pure_eq_ret]
  iintro HB
  iapply (wp_bndSet d L I f1 6 (ext6 (F := F) I)) $$ HB; iintro HB
  iapply (wp_bndSet d L I f1 7 (ext7 (F := F) I)) $$ HB; iintro HB
  iapply (wp_bndSet d L I f1 8 (ext8 (F := F) I)) $$ HB; iintro HB
  iapply (wp_bndSet d L I f1 9 (ext9 (F := F) I)) $$ HB; iintro HB
  iapply (wp_bndSet d L I f1 10 (ext10 (F := F) I)) $$ HB; iintro HB
  iapply (wp_bndSet d L I f1 11 (ext11 (F := F) I)) $$ HB; iintro HB
  iapply (wp_bndSet d L I f1 12 (ext12 (F := F) I)) $$ HB; iintro HB
  iapply (wp_bndSet d L I f1 13 (ext13 (F := F) I)) $$ HB; iintro HB
  iapply (wp_bndSet d L I f1 14 (ext14 (F := F) I)) $$ HB; iintro HB
  iapply (wp_bndSet d L I f1 15 (ext15 (F := F) I)) $$ HB; iintro HB
  rw [wp_ret]
  imodintro
  iexact HB

end Cert.Proof.Seg
-- ==== Proof.RowLoops.lean ====
/-
  The loops over a segment's rows, one per chunk: each leaves the sum of the rows, column by column.
-/
module

public import proofs.«01_k».proof.Proof.Sums

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

/-! ## What both chunks share -/

/-- Sixteen columns of a sum of rows, as a vector. -/
def colv (X : ℕ → ℕ → ℕ → F .f32) (ch lo n w : ℕ) : FVec F S16 .f32 := fun x => rsum X ch lo n (w + (x 0).val)

/-- The eight vectors of a sum of rows. -/
def sums (X : ℕ → ℕ → ℕ → F .f32) (ch lo n : ℕ) :
    FVec F S16 .f32 × FVec F S16 .f32 × FVec F S16 .f32 × FVec F S16 .f32 × FVec F S16 .f32 × FVec F S16 .f32 × FVec F S16 .f32 × FVec F S16 .f32 :=
  (colv X ch lo n 0, colv X ch lo n 16, colv X ch lo n 32, colv X ch lo n 48, colv X ch lo n 64, colv X ch lo n 80, colv X ch lo n 96,
    colv X ch lo n 112)

theorem colv_zero (X : ℕ → ℕ → ℕ → F .f32) (ch lo w : ℕ) : (broadcast S16 (Scalar.ofBits .f32 0x00000000#32 : F .f32)) = colv X ch lo 0 w := rfl

/-- One more row added. -/
theorem colv_succ (X : ℕ → ℕ → ℕ → F .f32) (ch lo n w row : ℕ) (h : row = lo + n) :
    addf (colv X ch lo n w) (shapeCast S16 (fun y : S1x1x16.Idx => X ch row (w + (y 2).val)) shapeCasts_S1x1x16_S16) = colv X ch lo (n + 1) w := by
  subst h
  funext x
  show FloatOps.addf _ (shapeCast S16 _ shapeCasts_S1x1x16_S16 x) = FloatOps.addf _ _
  rw [cast_vec3 (fun j => X ch (lo + n) (w + j)) x]
  rfl

theorem row_inb {off : Fin 3 → ℕ} {ch row w : ℕ} (h : off = ![ch, row, w]) (h0 : ch < 2) (h1 : row < 288) (h2 : w + 16 ≤ 128) :
    ∀ a, off a + S1x1x16.size a ≤ S2x288x128.size a := by
  subst h
  intro a
  match a with
  | 0 => show ch + 1 ≤ 2; omega
  | 1 => show row + 1 ≤ 288; omega
  | 2 => show w + 16 ≤ 128; omega

/-- The main loop's upper bound: the lower bound and the difference to `hi`. -/
theorem upper_eq (lo hi : BitVec 32) : Scalar.addi lo (Scalar.muli (Scalar.divsi (Scalar.subi hi lo) 1#32) 1#32) = hi := by
  rw [Scalar.muli_divsi_one]
  show lo + (hi - lo) = hi
  rw [BitVec.add_comm, BitVec.sub_add_cancel]

/-- The test "hi above lo". -/
theorem gt_iff {lo hi : BitVec 32} (hl : lo.toNat ≤ 576) (hh : hi.toNat ≤ 576) :
    (Scalar.cmpi .ne (Scalar.extui (Scalar.cmpi .sgt hi lo)) 0#32 = 1#1 ↔ lo.toNat < hi.toNat) := by
  rw [Scalar.guard_iff]
  show BitVec.ofBool (lo.slt hi) = 1#1 ↔ _
  rw [show (BitVec.ofBool (lo.slt hi) = 1#1 ↔ lo.slt hi = true) by cases lo.slt hi <;> decide, BitVec.slt_iff_toInt_lt, toInt_small hl, toInt_small hh]
  omega

/-! ## Chunk 0 -/

theorem k0_t4_lo {a : BitVec 32} (ha : a.toNat ≤ 576) : (Scalar.maxsi a 0#32).toNat = max a.toNat 0 := toNat_max ha (by decide)
theorem k0_t4_hi {b : BitVec 32} (hb : b.toNat ≤ 576) : (Scalar.minsi b 288#32).toNat = min b.toNat 288 := toNat_min hb (by decide)

theorem k0_t4_loop_eq (a b : BitVec 32) : k0_t4_loop a b = ⟨Scalar.maxsi a 0#32, Scalar.minsi b 288#32, 1#32⟩ :=
  congrArg (fun u => (⟨Scalar.maxsi a 0#32, u, 1#32⟩ : Scf.Loop 32)) (upper_eq _ _)

theorem k0_t4_trips {a b : BitVec 32} (ha : a.toNat ≤ 576) (hb : b.toNat ≤ 576) :
    (k0_t4_loop a b).trips = min b.toNat 288 - max a.toNat 0 := by
  rw [k0_t4_loop_eq]
  show Scf.trips _ _ 1#32 = _
  rw [loop_trips (by rw [k0_t4_lo ha]; omega) (by rw [k0_t4_hi hb]; omega), k0_t4_lo ha, k0_t4_hi hb]

theorem k0_t4_lt {a b : BitVec 32} (ha : a.toNat ≤ 576) (hb : b.toNat ≤ 576) (k : Fin (k0_t4_loop a b).trips) :
    max a.toNat 0 + k.val < min b.toNat 288 := by
  have h := lt_of_lt_of_eq k.isLt (k0_t4_trips ha hb)
  omega

theorem k0_t4_row {a b : BitVec 32} (ha : a.toNat ≤ 576) (hb : b.toNat ≤ 576) (k : Fin (k0_t4_loop a b).trips) :
    (Scalar.subi (Scf.iv (Scalar.maxsi a 0#32) 1#32 k) 0#32).toNat = (max a.toNat 0 - 0) + k.val := by
  have hk := k0_t4_lt ha hb k
  have e := loop_iv (a := Scalar.maxsi a 0#32) (k := k.val) (by rw [k0_t4_lo ha]; omega) (by omega)
  rw [k0_t4_lo ha] at e
  show (Scf.iv (Scalar.maxsi a 0#32) 1#32 k.val - 0#32).toNat = _
  rw [BitVec.toNat_sub, e, show (0#32 : BitVec 32).toNat = 0 from rfl]
  omega

theorem off14_row {a b : BitVec 32} (ha : a.toNat ≤ 576) (hb : b.toNat ≤ 576) (k : Fin (k0_t4_loop a b).trips) :
    k0_off14 a b k = ![0, (max a.toNat 0 - 0) + k.val, 0] := by
  rw [← k0_t4_row ha hb k]; rfl

theorem off15_row {a b : BitVec 32} (ha : a.toNat ≤ 576) (hb : b.toNat ≤ 576) (k : Fin (k0_t4_loop a b).trips) :
    k0_off15 a b k = ![0, (max a.toNat 0 - 0) + k.val, 16] := by
  rw [← k0_t4_row ha hb k]; rfl

theorem off16_row {a b : BitVec 32} (ha : a.toNat ≤ 576) (hb : b.toNat ≤ 576) (k : Fin (k0_t4_loop a b).trips) :
    k0_off16 a b k = ![0, (max a.toNat 0 - 0) + k.val, 32] := by
  rw [← k0_t4_row ha hb k]; rfl

theorem off17_row {a b : BitVec 32} (ha : a.toNat ≤ 576) (hb : b.toNat ≤ 576) (k : Fin (k0_t4_loop a b).trips) :
    k0_off17 a b k = ![0, (max a.toNat 0 - 0) + k.val, 48] := by
  rw [← k0_t4_row ha hb k]; rfl

theorem off18_row {a b : BitVec 32} (ha : a.toNat ≤ 576) (hb : b.toNat ≤ 576) (k : Fin (k0_t4_loop a b).trips) :
    k0_off18 a b k = ![0, (max a.toNat 0 - 0) + k.val, 64] := by
  rw [← k0_t4_row ha hb k]; rfl

theorem off19_row {a b : BitVec 32} (ha : a.toNat ≤ 576) (hb : b.toNat ≤ 576) (k : Fin (k0_t4_loop a b).trips) :
    k0_off19 a b k = ![0, (max a.toNat 0 - 0) + k.val, 80] := by
  rw [← k0_t4_row ha hb k]; rfl

theorem off20_row {a b : BitVec 32} (ha : a.toNat ≤ 576) (hb : b.toNat ≤ 576) (k : Fin (k0_t4_loop a b).trips) :
    k0_off20 a b k = ![0, (max a.toNat 0 - 0) + k.val, 96] := by
  rw [← k0_t4_row ha hb k]; rfl

theorem off21_row {a b : BitVec 32} (ha : a.toNat ≤ 576) (hb : b.toNat ≤ 576) (k : Fin (k0_t4_loop a b).trips) :
    k0_off21 a b k = ![0, (max a.toNat 0 - 0) + k.val, 112] := by
  rw [← k0_t4_row ha hb k]; rfl

/-- What the body assumes of the two boundaries it read. -/
theorem k0_chk3_ok {a b : BitVec 32} (ha : a.toNat ≤ 576) (hb : b.toNat ≤ 576) : k0_chk3 a b := by
  refine ⟨?_, fun k => row_inb (off14_row ha hb k) (by decide) (by have := k0_t4_lt ha hb k; omega) (by decide),
    fun k => row_inb (off15_row ha hb k) (by decide) (by have := k0_t4_lt ha hb k; omega) (by decide),
    fun k => row_inb (off16_row ha hb k) (by decide) (by have := k0_t4_lt ha hb k; omega) (by decide),
    fun k => row_inb (off17_row ha hb k) (by decide) (by have := k0_t4_lt ha hb k; omega) (by decide),
    fun k => row_inb (off18_row ha hb k) (by decide) (by have := k0_t4_lt ha hb k; omega) (by decide),
    fun k => row_inb (off19_row ha hb k) (by decide) (by have := k0_t4_lt ha hb k; omega) (by decide),
    fun k => row_inb (off20_row ha hb k) (by decide) (by have := k0_t4_lt ha hb k; omega) (by decide),
    fun k => row_inb (off21_row ha hb k) (by decide) (by have := k0_t4_lt ha hb k; omega) (by decide),
    Scf.rem_ok _ _, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim⟩
  rw [k0_t4_loop_eq]
  exact loop_ok (by rw [k0_t4_lo ha]; omega) (by rw [k0_t4_hi hb]; omega)

/-- One trip of the row loop adds one row to the eight sums. -/
theorem k0_t4_step (d : Dev nD) (L : grid0.Coords) (X : ℕ → ℕ → ℕ → F .f32) {a b : BitVec 32} (ha : a.toNat ≤ 576) (hb : b.toNat ≤ 576)
    (h : k0_chk3 a b) (k : Fin (k0_t4_loop a b).trips) :
    ((tV d L).loc cc0_scratch4 ↦[chSet 0]{fullShare} (rowF X))
      ⊢ wp frame (wpE (defs₀ (F := F)) 𝒱₀ (tV d L) none) Set.univ
          (k0_t4_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 a b h k (sums X 0 (max a.toNat 0 - 0) k.val)) fun acc =>
          (iprop(⌜acc = sums X 0 (max a.toNat 0 - 0) (k.val + 1)⌝ ∗ ((tV d L).loc cc0_scratch4 ↦[chSet 0]{fullShare} (rowF X))) : sProp 𝕄) := by
  unfold k0_t4_body
  simp only [Prog.lift, Prog.bind_op, Prog.bind_ret, Prog.pure_eq_ret, sums]
  iintro H
  iapply (wp_row d L X 0 ((max a.toNat 0 - 0) + k.val) 0 (off14_row ha hb k)) $$ H
  iintro H
  iapply (wp_row d L X 0 ((max a.toNat 0 - 0) + k.val) 16 (off15_row ha hb k)) $$ H
  iintro H
  iapply (wp_row d L X 0 ((max a.toNat 0 - 0) + k.val) 32 (off16_row ha hb k)) $$ H
  iintro H
  iapply (wp_row d L X 0 ((max a.toNat 0 - 0) + k.val) 48 (off17_row ha hb k)) $$ H
  iintro H
  iapply (wp_row d L X 0 ((max a.toNat 0 - 0) + k.val) 64 (off18_row ha hb k)) $$ H
  iintro H
  iapply (wp_row d L X 0 ((max a.toNat 0 - 0) + k.val) 80 (off19_row ha hb k)) $$ H
  iintro H
  iapply (wp_row d L X 0 ((max a.toNat 0 - 0) + k.val) 96 (off20_row ha hb k)) $$ H
  iintro H
  iapply (wp_row d L X 0 ((max a.toNat 0 - 0) + k.val) 112 (off21_row ha hb k)) $$ H
  iintro H
  rw [wp_ret]
  imodintro
  isplitr
  · ipureintro
    have e0 := colv_succ X 0 (max a.toNat 0 - 0) k.val 0 _ rfl
    have e1 := colv_succ X 0 (max a.toNat 0 - 0) k.val 16 _ rfl
    have e2 := colv_succ X 0 (max a.toNat 0 - 0) k.val 32 _ rfl
    have e3 := colv_succ X 0 (max a.toNat 0 - 0) k.val 48 _ rfl
    have e4 := colv_succ X 0 (max a.toNat 0 - 0) k.val 64 _ rfl
    have e5 := colv_succ X 0 (max a.toNat 0 - 0) k.val 80 _ rfl
    have e6 := colv_succ X 0 (max a.toNat 0 - 0) k.val 96 _ rfl
    have e7 := colv_succ X 0 (max a.toNat 0 - 0) k.val 112 _ rfl
    exact congrArg₂ Prod.mk e0 (congrArg₂ Prod.mk e1 (congrArg₂ Prod.mk e2 (congrArg₂ Prod.mk e3 (congrArg₂ Prod.mk e4 (congrArg₂ Prod.mk e5
      (congrArg₂ Prod.mk e6 e7))))))
  · iexact H

/-- The row loop sums the segment's rows of the chunk. -/
theorem k0_t4_sum (d : Dev nD) (L : grid0.Coords) (X : ℕ → ℕ → ℕ → F .f32) {a b : BitVec 32} (ha : a.toNat ≤ 576) (hb : b.toNat ≤ 576)
    (h : k0_chk3 a b) :
    ((tV d L).loc cc0_scratch4 ↦[chSet 0]{fullShare} (rowF X))
      ⊢ wp frame (wpE (defs₀ (F := F)) 𝒱₀ (tV d L) none) Set.univ
          (Scf.Loop.for (k0_t4_loop a b) (k0_t4_ok a b h) (k0_pay46 (F := F), k0_pay47 (F := F), k0_pay48 (F := F), k0_pay49 (F := F), k0_pay50 (F := F), k0_pay51 (F := F), k0_pay52 (F := F), k0_pay53 (F := F))
            (k0_t4_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 a b h)) fun acc =>
          (iprop(⌜acc = sums X 0 (max a.toNat 0 - 0) (min b.toNat 288 - max a.toNat 0)⌝
            ∗ ((tV d L).loc cc0_scratch4 ↦[chSet 0]{fullShare} (rowF X))) : sProp 𝕄) := by
  iintro H
  iapply (Scf.wp_for frame (wpE (defs₀ (F := F)) 𝒱₀ (tV d L) none) Set.univ _ _ _ _ _ _
    (fun n acc => iprop(⌜acc = sums X 0 (max a.toNat 0 - 0) n⌝ ∗ ((tV d L).loc cc0_scratch4 ↦[chSet 0]{fullShare} (rowF X)))) ?hbody)
  case hbody =>
    intro k acc
    iintro ⟨%e, H⟩
    subst e
    iapply (k0_t4_step d L X ha hb h k)
    iexact H
  isplitl [H]
  · isplitr
    · ipureintro; rfl
    · iexact H
  · iintro %acc ⟨%e, H⟩
    isplitr
    · ipureintro
      rw [e]
      exact congrArg _ (k0_t4_trips ha hb)
    · iexact H

/-! ## Chunk 1 -/

theorem k0_t7_lo {a : BitVec 32} (ha : a.toNat ≤ 576) : (Scalar.maxsi a 288#32).toNat = max a.toNat 288 := toNat_max ha (by decide)
theorem k0_t7_hi {b : BitVec 32} (hb : b.toNat ≤ 576) : (Scalar.minsi b 576#32).toNat = min b.toNat 576 := toNat_min hb (by decide)

theorem k0_t7_loop_eq (a b : BitVec 32) : k0_t7_loop a b = ⟨Scalar.maxsi a 288#32, Scalar.minsi b 576#32, 1#32⟩ :=
  congrArg (fun u => (⟨Scalar.maxsi a 288#32, u, 1#32⟩ : Scf.Loop 32)) (upper_eq _ _)

theorem k0_t7_trips {a b : BitVec 32} (ha : a.toNat ≤ 576) (hb : b.toNat ≤ 576) :
    (k0_t7_loop a b).trips = min b.toNat 576 - max a.toNat 288 := by
  rw [k0_t7_loop_eq]
  show Scf.trips _ _ 1#32 = _
  rw [loop_trips (by rw [k0_t7_lo ha]; omega) (by rw [k0_t7_hi hb]; omega), k0_t7_lo ha, k0_t7_hi hb]

theorem k0_t7_lt {a b : BitVec 32} (ha : a.toNat ≤ 576) (hb : b.toNat ≤ 576) (k : Fin (k0_t7_loop a b).trips) :
    max a.toNat 288 + k.val < min b.toNat 576 := by
  have h := lt_of_lt_of_eq k.isLt (k0_t7_trips ha hb)
  omega

theorem k0_t7_row {a b : BitVec 32} (ha : a.toNat ≤ 576) (hb : b.toNat ≤ 576) (k : Fin (k0_t7_loop a b).trips) :
    (Scalar.subi (Scf.iv (Scalar.maxsi a 288#32) 1#32 k) 288#32).toNat = (max a.toNat 288 - 288) + k.val := by
  have hk := k0_t7_lt ha hb k
  have e := loop_iv (a := Scalar.maxsi a 288#32) (k := k.val) (by rw [k0_t7_lo ha]; omega) (by omega)
  rw [k0_t7_lo ha] at e
  show (Scf.iv (Scalar.maxsi a 288#32) 1#32 k.val - 288#32).toNat = _
  rw [BitVec.toNat_sub, e, show (288#32 : BitVec 32).toNat = 288 from rfl]
  omega

theorem off40_row {a b : BitVec 32} (ha : a.toNat ≤ 576) (hb : b.toNat ≤ 576) (k : Fin (k0_t7_loop a b).trips) :
    k0_off40 a b k = ![1, (max a.toNat 288 - 288) + k.val, 0] := by
  rw [← k0_t7_row ha hb k]; rfl

theorem off41_row {a b : BitVec 32} (ha : a.toNat ≤ 576) (hb : b.toNat ≤ 576) (k : Fin (k0_t7_loop a b).trips) :
    k0_off41 a b k = ![1, (max a.toNat 288 - 288) + k.val, 16] := by
  rw [← k0_t7_row ha hb k]; rfl

theorem off42_row {a b : BitVec 32} (ha : a.toNat ≤ 576) (hb : b.toNat ≤ 576) (k : Fin (k0_t7_loop a b).trips) :
    k0_off42 a b k = ![1, (max a.toNat 288 - 288) + k.val, 32] := by
  rw [← k0_t7_row ha hb k]; rfl

theorem off43_row {a b : BitVec 32} (ha : a.toNat ≤ 576) (hb : b.toNat ≤ 576) (k : Fin (k0_t7_loop a b).trips) :
    k0_off43 a b k = ![1, (max a.toNat 288 - 288) + k.val, 48] := by
  rw [← k0_t7_row ha hb k]; rfl

theorem off44_row {a b : BitVec 32} (ha : a.toNat ≤ 576) (hb : b.toNat ≤ 576) (k : Fin (k0_t7_loop a b).trips) :
    k0_off44 a b k = ![1, (max a.toNat 288 - 288) + k.val, 64] := by
  rw [← k0_t7_row ha hb k]; rfl

theorem off45_row {a b : BitVec 32} (ha : a.toNat ≤ 576) (hb : b.toNat ≤ 576) (k : Fin (k0_t7_loop a b).trips) :
    k0_off45 a b k = ![1, (max a.toNat 288 - 288) + k.val, 80] := by
  rw [← k0_t7_row ha hb k]; rfl

theorem off46_row {a b : BitVec 32} (ha : a.toNat ≤ 576) (hb : b.toNat ≤ 576) (k : Fin (k0_t7_loop a b).trips) :
    k0_off46 a b k = ![1, (max a.toNat 288 - 288) + k.val, 96] := by
  rw [← k0_t7_row ha hb k]; rfl

theorem off47_row {a b : BitVec 32} (ha : a.toNat ≤ 576) (hb : b.toNat ≤ 576) (k : Fin (k0_t7_loop a b).trips) :
    k0_off47 a b k = ![1, (max a.toNat 288 - 288) + k.val, 112] := by
  rw [← k0_t7_row ha hb k]; rfl

/-- What the body assumes of the two boundaries it read. -/
theorem k0_chk4_ok {a b : BitVec 32} (ha : a.toNat ≤ 576) (hb : b.toNat ≤ 576) : k0_chk4 a b := by
  refine ⟨?_, fun k => row_inb (off40_row ha hb k) (by decide) (by have := k0_t7_lt ha hb k; omega) (by decide),
    fun k => row_inb (off41_row ha hb k) (by decide) (by have := k0_t7_lt ha hb k; omega) (by decide),
    fun k => row_inb (off42_row ha hb k) (by decide) (by have := k0_t7_lt ha hb k; omega) (by decide),
    fun k => row_inb (off43_row ha hb k) (by decide) (by have := k0_t7_lt ha hb k; omega) (by decide),
    fun k => row_inb (off44_row ha hb k) (by decide) (by have := k0_t7_lt ha hb k; omega) (by decide),
    fun k => row_inb (off45_row ha hb k) (by decide) (by have := k0_t7_lt ha hb k; omega) (by decide),
    fun k => row_inb (off46_row ha hb k) (by decide) (by have := k0_t7_lt ha hb k; omega) (by decide),
    fun k => row_inb (off47_row ha hb k) (by decide) (by have := k0_t7_lt ha hb k; omega) (by decide),
    Scf.rem_ok _ _, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim, fun k => (Scf.rem_no_trip _ _ k).elim⟩
  rw [k0_t7_loop_eq]
  exact loop_ok (by rw [k0_t7_lo ha]; omega) (by rw [k0_t7_hi hb]; omega)

/-- One trip of the row loop adds one row to the eight sums. -/
theorem k0_t7_step (d : Dev nD) (L : grid0.Coords) (X : ℕ → ℕ → ℕ → F .f32) {a b : BitVec 32} (ha : a.toNat ≤ 576) (hb : b.toNat ≤ 576)
    (h : k0_chk4 a b) (k : Fin (k0_t7_loop a b).trips) :
    ((tV d L).loc cc0_scratch4 ↦[chSet 1]{fullShare} (rowF X))
      ⊢ wp frame (wpE (defs₀ (F := F)) 𝒱₀ (tV d L) none) Set.univ
          (k0_t7_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 a b h k (sums X 1 (max a.toNat 288 - 288) k.val)) fun acc =>
          (iprop(⌜acc = sums X 1 (max a.toNat 288 - 288) (k.val + 1)⌝ ∗ ((tV d L).loc cc0_scratch4 ↦[chSet 1]{fullShare} (rowF X))) : sProp 𝕄) := by
  unfold k0_t7_body
  simp only [Prog.lift, Prog.bind_op, Prog.bind_ret, Prog.pure_eq_ret, sums]
  iintro H
  iapply (wp_row d L X 1 ((max a.toNat 288 - 288) + k.val) 0 (off40_row ha hb k)) $$ H
  iintro H
  iapply (wp_row d L X 1 ((max a.toNat 288 - 288) + k.val) 16 (off41_row ha hb k)) $$ H
  iintro H
  iapply (wp_row d L X 1 ((max a.toNat 288 - 288) + k.val) 32 (off42_row ha hb k)) $$ H
  iintro H
  iapply (wp_row d L X 1 ((max a.toNat 288 - 288) + k.val) 48 (off43_row ha hb k)) $$ H
  iintro H
  iapply (wp_row d L X 1 ((max a.toNat 288 - 288) + k.val) 64 (off44_row ha hb k)) $$ H
  iintro H
  iapply (wp_row d L X 1 ((max a.toNat 288 - 288) + k.val) 80 (off45_row ha hb k)) $$ H
  iintro H
  iapply (wp_row d L X 1 ((max a.toNat 288 - 288) + k.val) 96 (off46_row ha hb k)) $$ H
  iintro H
  iapply (wp_row d L X 1 ((max a.toNat 288 - 288) + k.val) 112 (off47_row ha hb k)) $$ H
  iintro H
  rw [wp_ret]
  imodintro
  isplitr
  · ipureintro
    have e0 := colv_succ X 1 (max a.toNat 288 - 288) k.val 0 _ rfl
    have e1 := colv_succ X 1 (max a.toNat 288 - 288) k.val 16 _ rfl
    have e2 := colv_succ X 1 (max a.toNat 288 - 288) k.val 32 _ rfl
    have e3 := colv_succ X 1 (max a.toNat 288 - 288) k.val 48 _ rfl
    have e4 := colv_succ X 1 (max a.toNat 288 - 288) k.val 64 _ rfl
    have e5 := colv_succ X 1 (max a.toNat 288 - 288) k.val 80 _ rfl
    have e6 := colv_succ X 1 (max a.toNat 288 - 288) k.val 96 _ rfl
    have e7 := colv_succ X 1 (max a.toNat 288 - 288) k.val 112 _ rfl
    exact congrArg₂ Prod.mk e0 (congrArg₂ Prod.mk e1 (congrArg₂ Prod.mk e2 (congrArg₂ Prod.mk e3 (congrArg₂ Prod.mk e4 (congrArg₂ Prod.mk e5
      (congrArg₂ Prod.mk e6 e7))))))
  · iexact H

/-- The row loop sums the segment's rows of the chunk. -/
theorem k0_t7_sum (d : Dev nD) (L : grid0.Coords) (X : ℕ → ℕ → ℕ → F .f32) {a b : BitVec 32} (ha : a.toNat ≤ 576) (hb : b.toNat ≤ 576)
    (h : k0_chk4 a b) :
    ((tV d L).loc cc0_scratch4 ↦[chSet 1]{fullShare} (rowF X))
      ⊢ wp frame (wpE (defs₀ (F := F)) 𝒱₀ (tV d L) none) Set.univ
          (Scf.Loop.for (k0_t7_loop a b) (k0_t7_ok a b h) (k0_pay72 (F := F), k0_pay73 (F := F), k0_pay74 (F := F), k0_pay75 (F := F), k0_pay76 (F := F), k0_pay77 (F := F), k0_pay78 (F := F), k0_pay79 (F := F))
            (k0_t7_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 a b h)) fun acc =>
          (iprop(⌜acc = sums X 1 (max a.toNat 288 - 288) (min b.toNat 576 - max a.toNat 288)⌝
            ∗ ((tV d L).loc cc0_scratch4 ↦[chSet 1]{fullShare} (rowF X))) : sProp 𝕄) := by
  iintro H
  iapply (Scf.wp_for frame (wpE (defs₀ (F := F)) 𝒱₀ (tV d L) none) Set.univ _ _ _ _ _ _
    (fun n acc => iprop(⌜acc = sums X 1 (max a.toNat 288 - 288) n⌝ ∗ ((tV d L).loc cc0_scratch4 ↦[chSet 1]{fullShare} (rowF X)))) ?hbody)
  case hbody =>
    intro k acc
    iintro ⟨%e, H⟩
    subst e
    iapply (k0_t7_step d L X ha hb h k)
    iexact H
  isplitl [H]
  · isplitr
    · ipureintro; rfl
    · iexact H
  · iintro %acc ⟨%e, H⟩
    isplitr
    · ipureintro
      rw [e]
      exact congrArg _ (k0_t7_trips ha hb)
    · iexact H

end Cert.Proof.Seg
-- ==== Proof.Trips.lean ====
/-
  One segment's trip in each of the two chunks.
-/
module

public import proofs.«01_k».proof.Proof.RowLoops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

/-! ## Chunk 0 -/

/-- One trip over the segments: the sum of the segment's rows of the chunk is added to its row of the accumulator. -/
theorem k0_t3_step (d : Dev nD) (L : grid0.Coords) (I : ℕ → BitVec 32) (X : ℕ → ℕ → ℕ → F .f32) (s : Fin k0_t3_loop.trips) (u : BitVec 32) :
    (iprop(((tV d L).loc cc0_scratch1 ↦{fullShare} (bndF F I)) ∗ ((tV d L).loc cc0_scratch3 ↦{fullShare} (accF (acc0 I X s.val)))
        ∗ ((tV d L).loc cc0_scratch4 ↦[chSet 0]{fullShare} (rowF X))) : sProp 𝕄)
      ⊢ wp frame (wpE (defs₀ (F := F)) 𝒱₀ (tV d L) none) Set.univ (k0_t3_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 s u) fun _ =>
          (iprop(((tV d L).loc cc0_scratch1 ↦{fullShare} (bndF F I)) ∗ ((tV d L).loc cc0_scratch3 ↦{fullShare} (accF (acc0 I X (s.val + 1))))
        ∗ ((tV d L).loc cc0_scratch4 ↦[chSet 0]{fullShare} (rowF X))) : sProp 𝕄) := by
  have ha := bnd_le (F := F) I s.val
  have hb := bnd_le (F := F) I (s.val + 1)
  have hchk : k0_chk3 (bnd F I s.val) (bnd F I (s.val + 1)) := k0_chk3_ok ha hb
  unfold k0_t3_body
  simp only [k0_part1_eq_skeleton, k0_part2_eq_skeleton, k0_part1_skel, k0_part2_skel, Prog.lift, Prog.bind_op, Prog.bind_ret, Prog.pure_eq_ret]
  iintro ⟨HB, HA, HX⟩
  iapply (wp_bnd d L I s.val (k0_off12_eq s)) $$ HB
  iintro HB
  iapply (wp_bnd d L I (s.val + 1) (k0_off13_eq s)) $$ HB
  iintro HB
  rw [wp_assume_of _ _ _ _ hchk]
  rw [wp_bind]
  iapply (wp_wand_r frame _ _)
  isplitl [HX]
  · iapply (k0_t4_sum d L X ha hb hchk); iexact HX
  iintro %acc ⟨%e, HX⟩
  subst e
  simp only [sums]
  rw [show Scf.Loop.for (k0_t5_loop (bnd F I s.val) (bnd F I (s.val + 1))) (k0_t5_ok _ _ hchk) _ _ = .ret _ from Scf.for_rem_eq _ _ _ _ _]
  simp only [Prog.bind_ret]
  by_cases hc : (Scalar.maxsi (bnd F I s.val) 0#32).toNat < (Scalar.minsi (bnd F I (s.val + 1)) 288#32).toNat
  · rw [if_pos ((gt_iff (by rw [k0_t4_lo ha]; omega) (by rw [k0_t4_hi hb]; omega)).mpr hc)]
    rw [k0_t4_lo ha, k0_t4_hi hb] at hc
    rw [← addTo_zero (acc0 I X s.val) s.val (rsum X 0 (max (bnd F I s.val).toNat 0 - 0) (min (bnd F I (s.val + 1)).toNat 288 - max (bnd F I s.val).toNat 0))]
    iapply (wp_accAdd d L (acc0 I X s.val) s.val (rsum X 0 (max (bnd F I s.val).toNat 0 - 0) (min (bnd F I (s.val + 1)).toNat 288 - max (bnd F I s.val).toNat 0)) 0 (k0_off30_eq s) (v := colv X 0 (max (bnd F I s.val).toNat 0 - 0) (min (bnd F I (s.val + 1)).toNat 288 - max (bnd F I s.val).toNat 0) 0) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 16 (k0_off31_eq s) (v := colv X 0 (max (bnd F I s.val).toNat 0 - 0) (min (bnd F I (s.val + 1)).toNat 288 - max (bnd F I s.val).toNat 0) 16) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 32 (k0_off32_eq s) (v := colv X 0 (max (bnd F I s.val).toNat 0 - 0) (min (bnd F I (s.val + 1)).toNat 288 - max (bnd F I s.val).toNat 0) 32) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 48 (k0_off33_eq s) (v := colv X 0 (max (bnd F I s.val).toNat 0 - 0) (min (bnd F I (s.val + 1)).toNat 288 - max (bnd F I s.val).toNat 0) 48) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 64 (k0_off34_eq s) (v := colv X 0 (max (bnd F I s.val).toNat 0 - 0) (min (bnd F I (s.val + 1)).toNat 288 - max (bnd F I s.val).toNat 0) 64) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 80 (k0_off35_eq s) (v := colv X 0 (max (bnd F I s.val).toNat 0 - 0) (min (bnd F I (s.val + 1)).toNat 288 - max (bnd F I s.val).toNat 0) 80) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 96 (k0_off36_eq s) (v := colv X 0 (max (bnd F I s.val).toNat 0 - 0) (min (bnd F I (s.val + 1)).toNat 288 - max (bnd F I s.val).toNat 0) 96) (fun _ => rfl)) $$ HA
    iintro HA
    iapply (wp_accAdd d L (acc0 I X s.val) s.val (rsum X 0 (max (bnd F I s.val).toNat 0 - 0) (min (bnd F I (s.val + 1)).toNat 288 - max (bnd F I s.val).toNat 0)) 112 (k0_off37_eq s) (v := colv X 0 (max (bnd F I s.val).toNat 0 - 0) (min (bnd F I (s.val + 1)).toNat 288 - max (bnd F I s.val).toNat 0) 112) (fun _ => rfl)) $$ HA
    iintro HA
    rw [wp_ret]
    imodintro
    rw [accF_addTo]
    isplitl [HB]; · iexact HB
    isplitl [HA]
    · rw [show acc0 I X (s.val + 1) = addRow (acc0 I X s.val) s.val (rsum X 0 (max (bnd F I s.val).toNat 0 - 0) (min (bnd F I (s.val + 1)).toNat 288 - max (bnd F I s.val).toNat 0)) from by
        show updSeg _ _ _ _ _ _ = _
        unfold updSeg
        have e1 : lo0 F I s.val = (bnd F I s.val).toNat := rfl
        have e2 : hi0 F I s.val = min (bnd F I (s.val + 1)).toNat 288 := rfl
        rw [e1, e2, if_pos (by omega)]
        congr 2
        all_goals omega]
      iexact HA
    · iexact HX
  · rw [if_neg (fun h => hc ((gt_iff (by rw [k0_t4_lo ha]; omega) (by rw [k0_t4_hi hb]; omega)).mp h))]
    rw [k0_t4_lo ha, k0_t4_hi hb] at hc
    rw [wp_ret]
    imodintro
    isplitl [HB]; · iexact HB
    isplitl [HA]
    · rw [show acc0 I X (s.val + 1) = acc0 I X s.val from by
        show updSeg _ _ _ _ _ _ = _
        unfold updSeg
        rw [if_neg (by show ¬ (bnd F I s.val).toNat < min (bnd F I (s.val + 1)).toNat 288; omega)]]
      iexact HA
    · iexact HX

/-- All sixteen segments' trips. -/
theorem k0_t3_all (d : Dev nD) (L : grid0.Coords) (I : ℕ → BitVec 32) (X : ℕ → ℕ → ℕ → F .f32) :
    (iprop(((tV d L).loc cc0_scratch1 ↦{fullShare} (bndF F I)) ∗ ((tV d L).loc cc0_scratch3 ↦{fullShare} (accF (acc0 I X 0)))
        ∗ ((tV d L).loc cc0_scratch4 ↦[chSet 0]{fullShare} (rowF X))) : sProp 𝕄)
      ⊢ wp frame (wpE (defs₀ (F := F)) 𝒱₀ (tV d L) none) Set.univ (Scf.Loop.for k0_t3_loop k0_t3_ok 0#32 (k0_t3_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1)) fun _ =>
          (iprop(((tV d L).loc cc0_scratch1 ↦{fullShare} (bndF F I)) ∗ ((tV d L).loc cc0_scratch3 ↦{fullShare} (accF (acc0 I X 16)))
        ∗ ((tV d L).loc cc0_scratch4 ↦[chSet 0]{fullShare} (rowF X))) : sProp 𝕄) := by
  iintro H
  iapply (Scf.wp_for frame (wpE (defs₀ (F := F)) 𝒱₀ (tV d L) none) Set.univ _ _ _ _ _ _
    (fun n _ => iprop(((tV d L).loc cc0_scratch1 ↦{fullShare} (bndF F I)) ∗ ((tV d L).loc cc0_scratch3 ↦{fullShare} (accF (acc0 I X n)))
        ∗ ((tV d L).loc cc0_scratch4 ↦[chSet 0]{fullShare} (rowF X)))) ?hbody)
  case hbody =>
    intro k acc
    exact k0_t3_step d L I X k acc
  isplitl [H]
  · iexact H
  · iintro %acc H
    iexact H

/-! ## Chunk 1 -/

/-- One trip over the segments: the sum of the segment's rows of the chunk is added to its row of the accumulator. -/
theorem k0_t6_step (d : Dev nD) (L : grid0.Coords) (I : ℕ → BitVec 32) (X : ℕ → ℕ → ℕ → F .f32) (s : Fin k0_t6_loop.trips) (u : BitVec 32) :
    (iprop(((tV d L).loc cc0_scratch1 ↦{fullShare} (bndF F I)) ∗ ((tV d L).loc cc0_scratch3 ↦{fullShare} (accF (acc1 I X s.val)))
        ∗ ((tV d L).loc cc0_scratch4 ↦[chSet 1]{fullShare} (rowF X))) : sProp 𝕄)
      ⊢ wp frame (wpE (defs₀ (F := F)) 𝒱₀ (tV d L) none) Set.univ (k0_t6_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1 s u) fun _ =>
          (iprop(((tV d L).loc cc0_scratch1 ↦{fullShare} (bndF F I)) ∗ ((tV d L).loc cc0_scratch3 ↦{fullShare} (accF (acc1 I X (s.val + 1))))
        ∗ ((tV d L).loc cc0_scratch4 ↦[chSet 1]{fullShare} (rowF X))) : sProp 𝕄) := by
  have ha := bnd_le (F := F) I s.val
  have hb := bnd_le (F := F) I (s.val + 1)
  have hchk : k0_chk4 (bnd F I s.val) (bnd F I (s.val + 1)) := k0_chk4_ok ha hb
  unfold k0_t6_body
  simp only [k0_part1_eq_skeleton, k0_part2_eq_skeleton, k0_part1_skel, k0_part2_skel, Prog.lift, Prog.bind_op, Prog.bind_ret, Prog.pure_eq_ret]
  iintro ⟨HB, HA, HX⟩
  iapply (wp_bnd d L I s.val (k0_off38_eq s)) $$ HB
  iintro HB
  iapply (wp_bnd d L I (s.val + 1) (k0_off39_eq s)) $$ HB
  iintro HB
  rw [wp_assume_of _ _ _ _ hchk]
  rw [wp_bind]
  iapply (wp_wand_r frame _ _)
  isplitl [HX]
  · iapply (k0_t7_sum d L X ha hb hchk); iexact HX
  iintro %acc ⟨%e, HX⟩
  subst e
  simp only [sums]
  rw [show Scf.Loop.for (k0_t8_loop (bnd F I s.val) (bnd F I (s.val + 1))) (k0_t8_ok _ _ hchk) _ _ = .ret _ from Scf.for_rem_eq _ _ _ _ _]
  simp only [Prog.bind_ret]
  by_cases hc : (Scalar.maxsi (bnd F I s.val) 288#32).toNat < (Scalar.minsi (bnd F I (s.val + 1)) 576#32).toNat
  · rw [if_pos ((gt_iff (by rw [k0_t7_lo ha]; omega) (by rw [k0_t7_hi hb]; omega)).mpr hc)]
    rw [k0_t7_lo ha, k0_t7_hi hb] at hc
    rw [← addTo_zero (acc1 I X s.val) s.val (rsum X 1 (max (bnd F I s.val).toNat 288 - 288) (min (bnd F I (s.val + 1)).toNat 576 - max (bnd F I s.val).toNat 288))]
    iapply (wp_accAdd d L (acc1 I X s.val) s.val (rsum X 1 (max (bnd F I s.val).toNat 288 - 288) (min (bnd F I (s.val + 1)).toNat 576 - max (bnd F I s.val).toNat 288)) 0 (k0_off56_eq s) (v := colv X 1 (max (bnd F I s.val).toNat 288 - 288) (min (bnd F I (s.val + 1)).toNat 576 - max (bnd F I s.val).toNat 288) 0) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 16 (k0_off57_eq s) (v := colv X 1 (max (bnd F I s.val).toNat 288 - 288) (min (bnd F I (s.val + 1)).toNat 576 - max (bnd F I s.val).toNat 288) 16) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 32 (k0_off58_eq s) (v := colv X 1 (max (bnd F I s.val).toNat 288 - 288) (min (bnd F I (s.val + 1)).toNat 576 - max (bnd F I s.val).toNat 288) 32) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 48 (k0_off59_eq s) (v := colv X 1 (max (bnd F I s.val).toNat 288 - 288) (min (bnd F I (s.val + 1)).toNat 576 - max (bnd F I s.val).toNat 288) 48) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 64 (k0_off60_eq s) (v := colv X 1 (max (bnd F I s.val).toNat 288 - 288) (min (bnd F I (s.val + 1)).toNat 576 - max (bnd F I s.val).toNat 288) 64) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 80 (k0_off61_eq s) (v := colv X 1 (max (bnd F I s.val).toNat 288 - 288) (min (bnd F I (s.val + 1)).toNat 576 - max (bnd F I s.val).toNat 288) 80) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 96 (k0_off62_eq s) (v := colv X 1 (max (bnd F I s.val).toNat 288 - 288) (min (bnd F I (s.val + 1)).toNat 576 - max (bnd F I s.val).toNat 288) 96) (fun _ => rfl)) $$ HA
    iintro HA
    iapply (wp_accAdd d L (acc1 I X s.val) s.val (rsum X 1 (max (bnd F I s.val).toNat 288 - 288) (min (bnd F I (s.val + 1)).toNat 576 - max (bnd F I s.val).toNat 288)) 112 (k0_off63_eq s) (v := colv X 1 (max (bnd F I s.val).toNat 288 - 288) (min (bnd F I (s.val + 1)).toNat 576 - max (bnd F I s.val).toNat 288) 112) (fun _ => rfl)) $$ HA
    iintro HA
    rw [wp_ret]
    imodintro
    rw [accF_addTo]
    isplitl [HB]; · iexact HB
    isplitl [HA]
    · rw [show acc1 I X (s.val + 1) = addRow (acc1 I X s.val) s.val (rsum X 1 (max (bnd F I s.val).toNat 288 - 288) (min (bnd F I (s.val + 1)).toNat 576 - max (bnd F I s.val).toNat 288)) from by
        show updSeg _ _ _ _ _ _ = _
        unfold updSeg
        have e1 : lo1 F I s.val = max (bnd F I s.val).toNat 288 - 288 := rfl
        have e2 : hi1 F I s.val = (bnd F I (s.val + 1)).toNat - 288 := rfl
        rw [e1, e2, if_pos (by omega)]
        congr 2
        all_goals omega]
      iexact HA
    · iexact HX
  · rw [if_neg (fun h => hc ((gt_iff (by rw [k0_t7_lo ha]; omega) (by rw [k0_t7_hi hb]; omega)).mp h))]
    rw [k0_t7_lo ha, k0_t7_hi hb] at hc
    rw [wp_ret]
    imodintro
    isplitl [HB]; · iexact HB
    isplitl [HA]
    · rw [show acc1 I X (s.val + 1) = acc1 I X s.val from by
        show updSeg _ _ _ _ _ _ = _
        unfold updSeg
        rw [if_neg (by show ¬ max (bnd F I s.val).toNat 288 - 288 < (bnd F I (s.val + 1)).toNat - 288; omega)]]
      iexact HA
    · iexact HX

/-- All sixteen segments' trips. -/
theorem k0_t6_all (d : Dev nD) (L : grid0.Coords) (I : ℕ → BitVec 32) (X : ℕ → ℕ → ℕ → F .f32) :
    (iprop(((tV d L).loc cc0_scratch1 ↦{fullShare} (bndF F I)) ∗ ((tV d L).loc cc0_scratch3 ↦{fullShare} (accF (acc1 I X 0)))
        ∗ ((tV d L).loc cc0_scratch4 ↦[chSet 1]{fullShare} (rowF X))) : sProp 𝕄)
      ⊢ wp frame (wpE (defs₀ (F := F)) 𝒱₀ (tV d L) none) Set.univ (Scf.Loop.for k0_t6_loop k0_t6_ok 0#32 (k0_t6_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1)) fun _ =>
          (iprop(((tV d L).loc cc0_scratch1 ↦{fullShare} (bndF F I)) ∗ ((tV d L).loc cc0_scratch3 ↦{fullShare} (accF (acc1 I X 16)))
        ∗ ((tV d L).loc cc0_scratch4 ↦[chSet 1]{fullShare} (rowF X))) : sProp 𝕄) := by
  iintro H
  iapply (Scf.wp_for frame (wpE (defs₀ (F := F)) 𝒱₀ (tV d L) none) Set.univ _ _ _ _ _ _
    (fun n _ => iprop(((tV d L).loc cc0_scratch1 ↦{fullShare} (bndF F I)) ∗ ((tV d L).loc cc0_scratch3 ↦{fullShare} (accF (acc1 I X n)))
        ∗ ((tV d L).loc cc0_scratch4 ↦[chSet 1]{fullShare} (rowF X)))) ?hbody)
  case hbody =>
    intro k acc
    exact k0_t6_step d L I X k acc
  isplitl [H]
  · iexact H
  · iintro %acc H
    iexact H

end Cert.Proof.Seg
-- ==== Proof.Tile.lean ====
/-
  One tile's task.
-/
module

public import proofs.«01_k».proof.Proof.Prefix
public import proofs.«01_k».proof.Proof.Trips
public import Idealize.ShloMosaic.Lib.SparseCore.Quiescent
public import Idealize.ShloMosaic.Lib.Tactic

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

/-! ## The chunks of the row buffer as the copies name them -/

abbrev rowSl0 : Memref sig .scVector .vmem S288x128 .f32 :=
  ((rowB).slice (Rect.unit (s := S2x288x128) ![0, 0, 0] S1x288x128.size inb_S2x288x128_S1x288x128_0_0_0) (fun _ => rfl)).squeeze S288x128 squeezes_S1x288x128_S288x128
abbrev rowSl1 : Memref sig .scVector .vmem S288x128 .f32 :=
  ((rowB).slice (Rect.unit (s := S2x288x128) ![1, 0, 0] S1x288x128.size inb_S2x288x128_S1x288x128_1_0_0) (fun _ => rfl)).squeeze S288x128 squeezes_S1x288x128_S288x128

theorem rowSl0_set : rowSl0.view.set = chSet 0 := by
  ext x
  show x ∈ (((rowB).view.slice (Rect.unit (s := S2x288x128) ![0, 0, 0] S1x288x128.size inb_S2x288x128_S1x288x128_0_0_0)).reshape S288x128 squeezes_S1x288x128_S288x128.numel_eq).set ↔ _
  rw [View.set_reshape]
  show x ∈ ((View.whole cc0_scratch4).slice (Rect.unit (s := S2x288x128) ![0, 0, 0] S1x288x128.size inb_S2x288x128_S1x288x128_0_0_0)).set ↔ _
  rw [View.set_slice_whole, Rect.mem_set_unit, mem_chSet]
  have h1 : (x 1).val < 288 := (x 1).isLt
  have h2 : (x 2).val < 128 := (x 2).isLt
  constructor
  · intro h
    have h0 : 0 ≤ (x 0).val ∧ (x 0).val < 0 + 1 := h 0
    omega
  · intro h a
    match a with
    | 0 => show 0 ≤ (x 0).val ∧ (x 0).val < 0 + 1; omega
    | 1 => show 0 ≤ (x 1).val ∧ (x 1).val < 0 + 288; omega
    | 2 => show 0 ≤ (x 2).val ∧ (x 2).val < 0 + 128; omega

theorem rowSl1_set : rowSl1.view.set = chSet 1 := by
  ext x
  show x ∈ (((rowB).view.slice (Rect.unit (s := S2x288x128) ![1, 0, 0] S1x288x128.size inb_S2x288x128_S1x288x128_1_0_0)).reshape S288x128 squeezes_S1x288x128_S288x128.numel_eq).set ↔ _
  rw [View.set_reshape]
  show x ∈ ((View.whole cc0_scratch4).slice (Rect.unit (s := S2x288x128) ![1, 0, 0] S1x288x128.size inb_S2x288x128_S1x288x128_1_0_0)).set ↔ _
  rw [View.set_slice_whole, Rect.mem_set_unit, mem_chSet]
  have h1 : (x 1).val < 288 := (x 1).isLt
  have h2 : (x 2).val < 128 := (x 2).isLt
  constructor
  · intro h
    have h0 : 1 ≤ (x 0).val ∧ (x 0).val < 1 + 1 := h 0
    omega
  · intro h a
    match a with
    | 0 => show 1 ≤ (x 0).val ∧ (x 0).val < 1 + 1; omega
    | 1 => show 0 ≤ (x 1).val ∧ (x 1).val < 0 + 288; omega
    | 2 => show 0 ≤ (x 2).val ∧ (x 2).val < 0 + 128; omega

/-- The two chunks are the whole row buffer. -/
theorem row_split (d : Dev nD) (L : grid0.Coords) (f : S2x288x128.Idx → F .f32) :
    (((tV d L).loc cc0_scratch4 ↦{fullShare} f) : sProp 𝕄)
      = iprop(((tV d L).loc cc0_scratch4 ↦[chSet 0]{fullShare} f) ∗ ((tV d L).loc cc0_scratch4 ↦[chSet 1]{fullShare} f)) := by
  have hd : Disjoint (chSet 0) (chSet 1) := by
    rw [Finset.disjoint_left]
    intro x h0 h1
    rw [mem_chSet] at h0 h1
    omega
  have hu : (Finset.univ : Finset S2x288x128.Idx) = chSet 0 ∪ chSet 1 := by
    ext x
    have h0 : (x 0).val < 2 := (x 0).isLt
    simp only [Finset.mem_univ, Finset.mem_union, mem_chSet, true_iff]
    omega
  have h := pointsTo_union (nD := nD) (τ := τ) (sig := sig) (Ix := HIx 1) (Val := Elt F) (Name := ℕ) (U := UU) (Lvl := ℕ) (ℓ := (tV d L).loc cc0_scratch4) (q := fullShare) (f := f) hd
  have e : (((tV d L).loc cc0_scratch4 ↦{fullShare} f) : sProp 𝕄) = ((tV d L).loc cc0_scratch4 ↦[chSet 0 ∪ chSet 1]{fullShare} f) := by
    rw [← hu]
  rw [e]
  exact BI.Entails.antisymm h.1 h.2

theorem row_sl0 (d : Dev nD) (L : grid0.Coords) (f : S2x288x128.Idx → F .f32) :
    (((tV d L).loc cc0_scratch4 ↦[chSet 0]{fullShare} f) : sProp 𝕄) = (rowSl0.view.loc (tV d L) ↦[rowSl0.view.set]{fullShare} f) := by
  rw [← rowSl0_set]

theorem row_sl1 (d : Dev nD) (L : grid0.Coords) (f : S2x288x128.Idx → F .f32) :
    (((tV d L).loc cc0_scratch4 ↦[chSet 1]{fullShare} f) : sProp 𝕄) = (rowSl1.view.loc (tV d L) ↦[rowSl1.view.set]{fullShare} f) := by
  rw [← rowSl1_set]

section
variable (m : (ℓ : Loc nD τ sig) → Buf (Elt F) ℓ)

/-- The words of the ids as a function of a number. -/
def idsN (f : S32768.Idx → BitVec 32) (k : ℕ) : BitVec 32 := if h : k < 32768 then f (fun | 0 => ⟨k, h⟩) else 0#32

/-- The rows as a function of two numbers. -/
def flatN (f : S32768x128.Idx → F .f32) (r c : ℕ) : F .f32 := if h : r < 32768 ∧ c < 128 then f (fun | 0 => ⟨r, h.1⟩ | 1 => ⟨c, h.2⟩) else zf

/-- The ids of worker `w`. -/
def idsW (f : S32768.Idx → BitVec 32) (w : ℕ) : ℕ → BitVec 32 := fun k => idsN f (576 * w + k)

/-- The rows of worker `w`, by chunk. -/
def flatW (f : S32768x128.Idx → F .f32) (w : ℕ) : ℕ → ℕ → ℕ → F .f32 := fun ch r c => flatN f (576 * w + 288 * ch + r) c

/-- What worker `w` writes: its segments' sums and its counts. -/
def psW (fi : S32768.Idx → BitVec 32) (ff : S32768x128.Idx → F .f32) (w r c : ℕ) : F .f32 := acc1 (idsW fi w) (flatW ff w) 16 r c

/-- The partial sums of all the workers. -/
def psV (fi : S32768.Idx → BitVec 32) (ff : S32768x128.Idx → F .f32) : S32x17x128.Idx → F .f32 :=
  fun x => psW fi ff (x 0).val (x 1).val (x 2).val

theorem flat_halves (d : Dev nD) (L : grid0.Coords) (q : PosShare TreeShare) (ff : S32768x128.Idx → F .f32) :
    ((flatLoc d ↦{q} ff) : sProp 𝕄) ⊢ iprop(((flatM).view.loc (tV d L) ↦{q.left} ff) ∗ ((flatM).view.loc (tV d L) ↦{q.right} ff)) :=
  (pointsTo_share (PosShare.mem_left_op_right q)).1

theorem flat_join (d : Dev nD) (L : grid0.Coords) (q : PosShare TreeShare) (ff : S32768x128.Idx → F .f32) :
    iprop(((flatM).view.loc (tV d L) ↦{q.left} ff) ∗ ((flatM).view.loc (tV d L) ↦{q.right} ff)) ⊢ ((flatLoc d ↦{q} ff) : sProp 𝕄) :=
  (pointsTo_share (PosShare.mem_left_op_right q)).2

theorem ids_scv (d : Dev nD) (L : grid0.Coords) (q : PosShare TreeShare) (fi : S32768.Idx → BitVec 32) :
    ((idsLoc d ↦{q} fi) : sProp 𝕄) ⊢ ((idsM).view.loc (tV d L) ↦{q} fi) := .rfl

theorem scr_whole (d : Dev nD) (L : grid0.Coords) (f : S576.Idx → BitVec 32) :
    (((tV d L).loc cc0_scratch0 ↦{fullShare} f) : sProp 𝕄) ⊢ ((idsB).view.loc (tV d L) ↦{fullShare} f) := .rfl

/-- Contents that a view reads alike agree on the view's elements. -/
theorem agree_of_read {κ : Kind} {sp : Space} {s : Shape} {e : EltTy} (v : View sig κ sp s e) (f g : v.ty.Contents (Elt F))
    (h : v.read (Elt F) f = v.read (Elt F) g) (i : v.ty.Idx) (hi : i ∈ v.set) : f i = g i := by
  obtain ⟨y, -, rfl⟩ := Finset.mem_map.mp hi
  have hy := congrFun h y
  rw [View.read_apply, View.read_apply] at hy
  exact (cast_inj _).mp hy

/-- The worker's words after the copy. -/
theorem ids_contents (d : Dev nD) (L : grid0.Coords) (fi : S32768.Idx → BitVec 32) (f0 : S576.Idx → BitVec 32) :
    (((idsB).view.loc (tV d L) ↦{fullShare} View.write (Elt F) (idsB).view f0
      (((idsM).slice (Rect.unit (s := S32768) (k0_off2 L) S576.size (k0_off2_inb L)) (fun _ => rfl)).view.read (Elt F) fi) Finset.univ) : sProp 𝕄)
      = ((tV d L).loc cc0_scratch0 ↦{fullShare} (idsF (idsW fi (wid L)))) := by
  have e : View.write (Elt F) (idsB).view f0
      (((idsM).slice (Rect.unit (s := S32768) (k0_off2 L) S576.size (k0_off2_inb L)) (fun _ => rfl)).view.read (Elt F) fi) Finset.univ
      = idsF (idsW fi (wid L)) := by
    rw [show View.write (Elt F) (idsB).view f0 _ Finset.univ = _ from View.write_whole_univ _ _ _]
    funext x
    have hx : (x 0).val < 576 := (x 0).isLt
    have hw := wid_lt L
    show fi _ = idsN fi (576 * wid L + (x 0).val)
    unfold idsN
    rw [dif_pos (by omega)]
    refine congrArg fi (funext fun a => Fin.ext ?_)
    match a with
    | 0 =>
      show k0_off2 L 0 + 1 * (x 0).val = 576 * wid L + (x 0).val
      have h2 : k0_off2 L 0 = (![1152 * (L 1).val + 576 * (L 0).val] : Fin 1 → ℕ) 0 := congrFun (k0_off2_eq L) 0
      refine (congrArg (fun n => n + 1 * (x 0).val) h2).trans ?_
      show 1152 * (L 1).val + 576 * (L 0).val + 1 * (x 0).val = _
      unfold wid
      omega
  rw [e]

/-- Reading a chunk of the row buffer. -/
theorem read_row0 (X : ℕ → ℕ → ℕ → F .f32) : rowSl0.view.read (Elt F) (rowF X) = fun y : S288x128.Idx => X 0 (y 0).val (y 1).val := by
  have hc : S1x288x128.ShapeCasts S288x128 := by decide
  have e := Memref.read_squeeze_slice (Val := Elt F) rowB (Rect.unit (s := S2x288x128) ![0, 0, 0] S1x288x128.size inb_S2x288x128_S1x288x128_0_0_0) (fun _ => rfl) squeezes_S1x288x128_S288x128 hc (rowF X)
  refine e.trans (funext fun y => ?_)
  rw [shapeCast_apply _ hc y (fun | 0 => ⟨0, by decide⟩ | 1 => y 0 | 2 => y 1) (by
    rw [Shape.rowMajor_val_three, Shape.rowMajor_val_two]
    show (0 * 288 + (y 0).val) * 128 + (y 1).val = (y 0).val * 128 + (y 1).val
    omega)]
  show X (0 + 1 * 0) (0 + 1 * (y 0).val) (0 + 1 * (y 1).val) = _
  congr 1 <;> omega

theorem read_row1 (X : ℕ → ℕ → ℕ → F .f32) : rowSl1.view.read (Elt F) (rowF X) = fun y : S288x128.Idx => X 1 (y 0).val (y 1).val := by
  have hc : S1x288x128.ShapeCasts S288x128 := by decide
  have e := Memref.read_squeeze_slice (Val := Elt F) rowB (Rect.unit (s := S2x288x128) ![1, 0, 0] S1x288x128.size inb_S2x288x128_S1x288x128_1_0_0) (fun _ => rfl) squeezes_S1x288x128_S288x128 hc (rowF X)
  refine e.trans (funext fun y => ?_)
  rw [shapeCast_apply _ hc y (fun | 0 => ⟨0, by decide⟩ | 1 => y 0 | 2 => y 1) (by
    rw [Shape.rowMajor_val_three, Shape.rowMajor_val_two]
    show (0 * 288 + (y 0).val) * 128 + (y 1).val = (y 0).val * 128 + (y 1).val
    omega)]
  show X (1 + 1 * 0) (0 + 1 * (y 0).val) (0 + 1 * (y 1).val) = _
  congr 1 <;> omega

/-- What a chunk's copy reads. -/
theorem read_flat (L : grid0.Coords) (ff : S32768x128.Idx → F .f32) (ch : Fin 2) {off : Fin 2 → ℕ} (hoff : off = ![1152 * (L 1).val + 576 * (L 0).val + 288 * ch.val, 0])
    (hin : ∀ a, off a + S288x128.size a ≤ S32768x128.size a) :
    ((flatM).slice (Rect.unit (s := S32768x128) off S288x128.size hin) (fun _ => rfl)).view.read (Elt F) ff
      = fun y : S288x128.Idx => flatW ff (wid L) ch.val (y 0).val (y 1).val := by
  subst hoff
  funext y
  have h0 : (y 0).val < 288 := (y 0).isLt
  have h1 : (y 1).val < 128 := (y 1).isLt
  have hw := wid_lt L
  have hc : ch.val < 2 := ch.isLt
  show ff _ = flatN ff (576 * wid L + 288 * ch.val + (y 0).val) (y 1).val
  unfold flatN
  rw [dif_pos ⟨by omega, h1⟩]
  refine congrArg ff (funext fun a => Fin.ext ?_)
  match a with
  | 0 =>
    show 1152 * (L 1).val + 576 * (L 0).val + 288 * ch.val + 1 * (y 0).val = 576 * wid L + 288 * ch.val + (y 0).val
    unfold wid
    omega
  | 1 =>
    show 0 + 1 * (y 1).val = (y 1).val
    omega

/-- The chunks after their copies. -/
theorem row_contents0 (d : Dev nD) (L : grid0.Coords) (ff : S32768x128.Idx → F .f32) (f4 : S2x288x128.Idx → F .f32) :
    ((rowSl0.view.loc (tV d L) ↦[rowSl0.view.set]{fullShare} rowSl0.view.writes (Elt F) f4 [⟨Rect.whole S288x128,
        ReadAs.same.apply (((flatM).slice (Rect.unit (s := S32768x128) (k0_off1 L 0#32) S288x128.size (k0_off1_inb L 0)) (fun _ => rfl)).view.read (Elt F) ff)⟩]) : sProp 𝕄)
      = ((tV d L).loc cc0_scratch4 ↦[chSet 0]{fullShare} rowF (flatW ff (wid L))) := by
  rw [row_sl0]
  refine pointsTo_congr (agree_of_read rowSl0.view _ _ ?_)
  rw [View.read_writes_whole, read_row0]
  exact read_flat L ff 0 (k0_off1_eq L 0) _

theorem row_contents1 (d : Dev nD) (L : grid0.Coords) (ff : S32768x128.Idx → F .f32) (f4 : S2x288x128.Idx → F .f32) :
    ((rowSl1.view.loc (tV d L) ↦[rowSl1.view.set]{fullShare} rowSl1.view.writes (Elt F) f4 [⟨Rect.whole S288x128,
        ReadAs.same.apply (((flatM).slice (Rect.unit (s := S32768x128) (k0_off1 L 288#32) S288x128.size (k0_off1_inb L 1)) (fun _ => rfl)).view.read (Elt F) ff)⟩]) : sProp 𝕄)
      = ((tV d L).loc cc0_scratch4 ↦[chSet 1]{fullShare} rowF (flatW ff (wid L))) := by
  rw [row_sl1]
  refine pointsTo_congr (agree_of_read rowSl1.view _ _ ?_)
  rw [View.read_writes_whole, read_row1]
  exact read_flat L ff 1 (k0_off1_eq L 1) _

/-- The last boundary written. -/
theorem bnd_last (d : Dev nD) (L : grid0.Coords) (I : ℕ → BitVec 32) (f1 : S17.Idx → BitVec 32) :
    (((bndB).view.loc (tV d L) ↦{fullShare} (bndB).view.writes (Elt F) (bndTo F I f1 16) [⟨Rect.unit (s := S17) ![16] S1.size inb_S17_S1_16, fun _ => 576#32⟩]) : sProp 𝕄)
      = ((tV d L).loc cc0_scratch1 ↦{fullShare} bndF F I) := by
  have e : (bndB).view.writes (Elt F) (bndTo F I f1 16) [⟨Rect.unit (s := S17) ![16] S1.size inb_S17_S1_16, fun _ => 576#32⟩] = bndTo F I f1 17 :=
    (bndTo_write (F := F) I f1 16 (hin := inb_S17_S1_16) (dif_neg (by omega) : bnd F I 16 = 576#32).symm).symm
  rw [e, bndTo_all]

/-- Reading a worker's rows of the partial sums. -/
theorem read_ps (L : grid0.Coords) (g : ℕ → ℕ → ℕ → F .f32) :
    (psTile L).view.read (Elt F) (fun x : S32x17x128.Idx => g (x 0).val (x 1).val (x 2).val) = fun y : S17x128.Idx => g (wid L) (y 0).val (y 1).val := by
  have hc : S1x17x128.ShapeCasts S17x128 := by decide
  have e := Memref.read_squeeze_slice (Val := Elt F) psM (Rect.unit (s := S32x17x128) (k0_off64 L) S1x17x128.size (k0_off64_inb L)) (fun _ => rfl) squeezes_S1x17x128_S17x128 hc (fun x : S32x17x128.Idx => g (x 0).val (x 1).val (x 2).val)
  refine e.trans (funext fun y => ?_)
  rw [shapeCast_apply _ hc y (fun | 0 => ⟨0, by decide⟩ | 1 => y 0 | 2 => y 1) (by
    rw [Shape.rowMajor_val_three, Shape.rowMajor_val_two]
    show (0 * 17 + (y 0).val) * 128 + (y 1).val = (y 0).val * 128 + (y 1).val
    omega)]
  show g (k0_off64 L 0 + 1 * 0) (k0_off64 L 1 + 1 * (y 0).val) (k0_off64 L 2 + 1 * (y 1).val) = _
  have h0 : k0_off64 L 0 = wid L := congrFun (k0_off64_eq L) 0
  have h1 : k0_off64 L 1 = 0 := congrFun (k0_off64_eq L) 1
  have h2 : k0_off64 L 2 = 0 := congrFun (k0_off64_eq L) 2
  rw [h0, h1, h2]
  congr 1 <;> omega

/-- What the write-out leaves in the worker's rows of the partial sums. -/
theorem ps_contents (d : Dev nD) (L : grid0.Coords) (fi : S32768.Idx → BitVec 32) (ff : S32768x128.Idx → F .f32) (fp : S32x17x128.Idx → F .f32) :
    (((psTile L).view.loc (tV d L) ↦[(psTile L).view.set]{fullShare} (psTile L).view.writes (Elt F) fp [⟨Rect.whole S17x128,
        ReadAs.same.apply ((accB).view.read (Elt F) (accF (acc1 (idsW fi (wid L)) (flatW ff (wid L)) 16)))⟩]) : sProp 𝕄)
      = ((psTile L).view.loc (tV d L) ↦[(psTile L).view.set]{fullShare} psV fi ff) := by
  refine pointsTo_congr (agree_of_read (psTile L).view _ _ ?_)
  rw [View.read_writes_whole]
  have e1 : (psTile L).view.read (Elt F) (psV fi ff) = fun y : S17x128.Idx => psW fi ff (wid L) (y 0).val (y 1).val := read_ps L (psW fi ff)
  rw [e1]
  unfold psW
  generalize acc1 (idsW fi (wid L)) (flatW ff (wid L)) 16 = A
  rfl

theorem acc_view (d : Dev nD) (L : grid0.Coords) (f : S17x128.Idx → F .f32) :
    (((tV d L).loc cc0_scratch3 ↦{fullShare} f) : sProp 𝕄) ⊢ ((accB).view.loc (tV d L) ↦{fullShare} f) := .rfl

theorem ps_view (d : Dev nD) (L : grid0.Coords) (f : S32x17x128.Idx → F .f32) :
    ((psLoc d ↦[psSet L]{fullShare} f) : sProp 𝕄) ⊢ ((psTile L).view.loc (tV d L) ↦[(psTile L).view.set]{fullShare} f) := .rfl

theorem ps_back (d : Dev nD) (L : grid0.Coords) (f : S32x17x128.Idx → F .f32) :
    ((psTile L).view.loc (tV d L) ↦[(psTile L).view.set]{fullShare} f) ⊢ ((psLoc d ↦[psSet L]{fullShare} f) : sProp 𝕄) := .rfl

theorem bnd_view (d : Dev nD) (L : grid0.Coords) (f : S17.Idx → BitVec 32) :
    (((tV d L).loc cc0_scratch1 ↦{fullShare} f) : sProp 𝕄) ⊢ ((bndB).view.loc (tV d L) ↦{fullShare} f) := .rfl

theorem tile_body (hF : (K (F := F)).Facts) (d : Dev nD) (L : grid0.Coords) (q : PosShare TreeShare) (fi : S32768.Idx → BitVec 32) (ff : S32768x128.Idx → F .f32)
    (fp : S32x17x128.Idx → F .f32) (O : CellTallies nD τ sig (HIx 1)) (W : Waits sig (HIx 1)) (hO : ∀ g, O g none = 0) :
    (iprop(levAts (K (F := F)).L (K (F := F)).lev ∗ emp ∗ ((flatLoc d ↦{q} ff) ∗ (idsLoc d ↦{q} fi) ∗ (psLoc d ↦[psSet L]{fullShare} fp))
        ∗ scopedBufs (tV d L) ∗ scopedSems0 (tV d L) ∗ owes (tV d L) O W) : sProp 𝕄)
      ⊢ wp frame (wpE (defs₀ (F := F)) 𝒱₀ (tV d L) none) Set.univ (cc0__sc_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1)
          fun _ => iprop(((flatLoc d ↦{q} ff) ∗ (idsLoc d ↦{q} fi) ∗ (psLoc d ↦[psSet L]{fullShare} psV fi ff))
            ∗ scopedBufs (tV d L) ∗ scopedSems0 (tV d L) ∗ ∃ W', ⌜∀ p ∈ W', p ∈ W ∨ p.2 = none⌝ ∗ owes (tV d L) O W') := by
  simp only [cc0__sc_body_eq_skeleton]
  unfold cc0__sc_body_skel
  simp only [k0_part3_eq_skeleton, k0_part4_eq_skeleton, k0_part5_eq_skeleton, k0_part6_eq_skeleton]
  unfold k0_part3_skel
  rw [(K (F := F)).scopedBufs_V hF d _ _, SparseCore.Cfg.scopedSems0_V (Val := Elt F) d _ _, ownSems0_V, ownBufs_V]
  iintro ⟨#Hlv, -, ⟨Hf, Hi, Hp⟩, ⟨⟨%f0, H0⟩, ⟨%f1, H1⟩, ⟨%f2, H2⟩, ⟨%f3, H3⟩, ⟨%f4, H4⟩, Hbufs⟩, ⟨Hs0, Hs1, Hs2, Hs3, Hsems⟩, HO⟩
  ihave Hmw := ((K (F := F)).mayWaits_none (thr := tV d L) hO) $$ Hlv
  ihave Hff := (flat_halves d L q ff) $$ Hf
  icases Hff with ⟨Hfa, Hfb⟩
  ihave Hi := (ids_scv d L q fi) $$ Hi
  ihave H0 := (scr_whole d L f0) $$ H0
  ihave H4 := (Entails.of_eq (row_split d L f4)) $$ H4
  icases H4 with ⟨H4a, H4b⟩
  ihave H4a := (Entails.of_eq (row_sl0 d L f4)) $$ H4a
  ihave H4b := (Entails.of_eq (row_sl1 d L f4)) $$ H4b
  sl_exec
  rw [wp_bind]
  rw [wp_bind]
  iapply (wp_wand_r frame _ _)
  isplitl [H3]
  · iapply (k0_t1_all d L f3); iexact H3
  iintro %_ H3
  rw [wp_pure]
  imodintro
  unfold tile_body.sl.dma0_2 tile_body.sl.dma0 tile_body.sl.dma0_1
  ihave H0 := (Entails.of_eq (ids_contents d L fi f0)) $$ H0
  rw [wp_bind]
  iapply (wp_wand_r frame _ _)
  isplitl [H0 H1 H2 H3]
  · iapply (part4_all d L (idsW fi (wid L)) f1 f2)
    isplitl [H0]; · iexact H0
    isplitl [H1]; · iexact H1
    isplitl [H2]; · iexact H2
    iexact H3
  iintro %v ⟨%ev, H0, H1, H2, H3⟩
  subst ev
  rw [wp_bind]
  iapply (wp_wand_r frame _ _)
  isplitl [H1]
  · iapply (part5_all d L (idsW fi (wid L)) f1); iexact H1
  iintro %_ H1
  unfold k0_part6_skel
  ihave H1 := (bnd_view d L _) $$ H1
  sl_exec
  ihave H1 := (Entails.of_eq (bnd_last d L (idsW fi (wid L)) f1)) $$ H1
  ihave H4a := (Entails.of_eq (row_contents0 d L ff f4)) $$ H4a
  rw [wp_bind]
  rw [wp_bind]
  iapply (wp_wand_r frame _ _)
  isplitl [H1 H3 H4a]
  · iapply (k0_t3_all d L (idsW fi (wid L)) (flatW ff (wid L)))
    isplitl [H1]; · iexact H1
    isplitl [H3]; · iexact H3
    iexact H4a
  iintro %_ ⟨H1, H3, H4a⟩
  sl_exec
  ihave H4b := (Entails.of_eq (row_contents1 d L ff _)) $$ H4b
  rw [wp_bind]
  rw [wp_bind]
  iapply (wp_wand_r frame _ _)
  isplitl [H1 H3 H4b]
  · iapply (k0_t6_all d L (idsW fi (wid L)) (flatW ff (wid L)))
    isplitl [H1]; · iexact H1
    isplitl [H3]; · iexact H3
    iexact H4b
  iintro %_ ⟨H1, H3, H4b⟩
  ihave H3 := (acc_view d L _) $$ H3
  ihave Hp := (ps_view d L fp) $$ Hp
  sl_exec
  unfold tile_body.sl.dma0_3
  ihave Hp := (Entails.of_eq (ps_contents d L fi ff fp)) $$ Hp
  ihave Hp := (ps_back d L _) $$ Hp
  ihave Hf := (flat_join d L q ff) $$ [Hfa Hfb]
  · isplitl [Hfa]; · iexact Hfa
    iexact Hfb
  ihave H4 := (Entails.of_eq (row_split d L (rowF (flatW ff (wid L)))).symm) $$ [H4a H4b]
  · isplitl [H4a]; · iexact H4a
    iexact H4b
  rw [wp_ret]
  imodintro
  isplitl [Hf Hi Hp]
  · isplitl [Hf]; · iexact Hf
    isplitl [Hi]; · iexact Hi
    iexact Hp
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  rotate_left
  · iexact HO
  · ipureintro
    intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact .inl hp
end

end Cert.Proof.Seg
-- ==== Proof.Pay.lean ====
/-
  What the SparseCore call is given and gives back: read shares of the rows and of the segment numbers for every tile,
  and each tile's own partial sums.
-/
module

public import proofs.«01_k».proof.Proof.Tile
public import Idealize.ShloMosaic.Lib.SparseCore.Quiescent

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

variable (m : (ℓ : Loc nD τ sig) → Buf (Elt F) ℓ) (ρ : Dev nD → PrngReg)

/-! ## What the call gives each SparseCore and each tile, and what comes back -/

/-- The read share of SparseCore `c`. -/
def qC (c : Fin 2) : PosShare TreeShare := Transfers.dealOf fullShare Finset.univ c
/-- The read share of tile `i` of SparseCore `c`. -/
def qT (c : Fin 2) (i : Fin 16) : PosShare TreeShare := Transfers.dealOf (qC c) Finset.univ i

abbrev psP (c : Fin 2) (i : Fin 16) : Finset S32x17x128.Idx := psSet (coordsV c i)

/-- What SparseCore `c` holds: its shares of the rows and of the segment numbers, and its tiles' partial sums at `fp`. -/
def coreRes (d : Dev nD) (c : Fin 2) (fp : Buf (Elt F) (psLoc d)) : sProp 𝕄 :=
  iprop((flatLoc d ↦{qC c} m (flatLoc d)) ∗ (idsLoc d ↦{qC c} m (idsLoc d)) ∗ bigSep Finset.univ fun i : Fin 16 => psLoc d ↦[psP c i]{fullShare} fp)
/-- What tile `i` of it holds. -/
def tileRes (d : Dev nD) (c : Fin 2) (i : Fin 16) (fp : Buf (Elt F) (psLoc d)) : sProp 𝕄 :=
  iprop((flatLoc d ↦{qT c i} m (flatLoc d)) ∗ (idsLoc d ↦{qT c i} m (idsLoc d)) ∗ (psLoc d ↦[psP c i]{fullShare} fp))

/-- The partial sums the SparseCore call leaves. -/
def psOut (d : Dev nD) : Buf (Elt F) (psLoc d) := psV (F := F) (m (idsLoc d)) (m (flatLoc d))

def P : (K (F := F)).Pay (nD := nD) (Val := Elt F) (Name := ℕ) (U := UU) where
  st := fun q d c => match q with | 0 => coreRes m d c (m (psLoc d))
  dn := fun q d c => match q with | 0 => coreRes m d c (psOut m d)
  go := fun q d c i => match q with | 0 => tileRes m d c i (m (psLoc d))
  td := fun q d c i => match q with | 0 => tileRes m d c i (psOut m d)
  x := fun _ _ => iprop(emp)

instance coreRes_storable (d : Dev nD) (c : Fin 2) (fp : Buf (Elt F) (psLoc d)) : BI.Storable (upEmb : UEmb _ 𝕄) (coreRes m d c fp) := by
  unfold coreRes; infer_instance
instance tileRes_storable (d : Dev nD) (c : Fin 2) (i : Fin 16) (fp : Buf (Elt F) (psLoc d)) : BI.Storable (upEmb : UEmb _ 𝕄) (tileRes m d c i fp) := by
  unfold tileRes; infer_instance

instance P_storable : (P (F := F) m).IsStorable where
  st q d c := match q with | 0 => coreRes_storable m d c _
  dn q d c := match q with | 0 => coreRes_storable m d c _
  go q d c i := match q with | 0 => tileRes_storable m d c i _
  td q d c i := match q with | 0 => tileRes_storable m d c i _

/-! ## A tile's task -/

theorem obl_post {thr : Thread nD τ} {A B C : sProp 𝕄} {O : CellTallies nD τ sig (HIx 1)} {W : Waits sig (HIx 1)} {q : HIx 1} :
    (iprop(A ∗ B ∗ C ∗ ∃ W', ⌜∀ p ∈ W', p ∈ W ∨ p.2 = none⌝ ∗ owes thr O W') : sProp 𝕄)
      ⊢ iprop(A ∗ B ∗ C ∗ ∃ W', ⌜∀ p ∈ W', p ∈ W ∨ p.2 = none ∨ p.2 = q⌝ ∗ owes thr O W') := by
  iintro ⟨HA, HB, HC, %W', %hW, Ho⟩
  isplitl [HA]; · iexact HA
  isplitl [HB]; · iexact HB
  isplitl [HC]; · iexact HC
  iexists W'
  isplitr; · ipureintro; exact fun p hp => (hW p hp).imp_right Or.inl
  iexact Ho

theorem defs₀_vector (c : Fin τ.nSC) (s : Fin τ.nSub) :
    defs₀ (F := F) (.scVector c s) 0 () = SparseCore.onTile hcore0 hsub0 (fun c s => (fun L : grid0.Coords => cc0__sc_body L flatM (Memref.isWhole_whole _) idsM (Memref.isWhole_whole _) psM (Memref.isWhole_whole _) idsB (Memref.isWhole_whole _) bndB (Memref.isWhole_whole _) vecB (Memref.isWhole_whole _) accB (Memref.isWhole_whole _) rowB (Memref.isWhole_whole _) cc0_scratch5 cc0_scratch6 cc0_scoped0 cc0_scoped1) (coordsV c s)) ⟨⟩ c s := rfl

/-- Every tile's task, from its shares to its partial sums. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (qT c i) (m (idsLoc d)) (m (flatLoc d)) (m (psLoc d)) O W hO).trans (wp_mono frame _ _ fun _ => obl_post)

/-! ## Dealing to the tiles and joining their pieces -/

theorem nSub_zero : (K (F := F)).nSub 0 = 16 := rfl
theorem bigSep_tasks (Φ : Fin 16 → sProp 𝕄) : (bigSep Finset.univ fun i : Fin ((K (F := F)).nSub 0) => Φ (Fin.cast nSub_zero i)) = bigSep Finset.univ Φ :=
  bigSep_congr fun _ _ => congrArg Φ (Fin.ext rfl)

theorem deal_tiles (d : Dev nD) (c : Fin 2) (fp : Buf (Elt F) (psLoc d)) :
    (coreRes m d c fp : sProp 𝕄) = bigSep Finset.univ fun i : Fin 16 => tileRes m d c i fp := by
  unfold coreRes tileRes
  rw [bigSep_sep', bigSep_sep', Transfers.pointsTo_deal (Finset.univ : Finset (Fin 16)) ⟨0, Finset.mem_univ _⟩ (qC c) (ℓ := flatLoc d) (f := m (flatLoc d)),
    Transfers.pointsTo_deal (Finset.univ : Finset (Fin 16)) ⟨0, Finset.mem_univ _⟩ (qC c) (ℓ := idsLoc d) (f := m (idsLoc d))]
  rfl

theorem vecSplit : (K (F := F)).VecSplit' (P m) 0 := by
  intro d c
  show coreRes m d c (m (psLoc d)) ⊢ |={Set.univ}=> iprop(
      (bigSep Finset.univ fun i : Fin ((K (F := F)).nSub 0) => tileRes m d c (Fin.cast nSub_zero i) (m (psLoc d)))
      ∗ ((bigSep Finset.univ fun i : Fin ((K (F := F)).nSub 0) => tileRes m d c (Fin.cast nSub_zero i) (psOut m d)) -∗ coreRes m d c (psOut m d)))
  rw [bigSep_tasks (F := F) (fun i => tileRes m d c i (m (psLoc d))), bigSep_tasks (F := F) (fun i => tileRes m d c i (psOut m d)),
    ← deal_tiles, ← deal_tiles]
  iintro H; imodintro
  isplitl [H]; · iexact H
  iintro H; iexact H

theorem wid_coordsV (c : Fin 2) (i : Fin 16) : wid (coordsV c i) = 2 * i.val + c.val := rfl

theorem psP_inj {c c' : Fin 2} {i i' : Fin 16} {x : S32x17x128.Idx} (h : x ∈ psP c i) (h' : x ∈ psP c' i') : c = c' ∧ i = i' := by
  rw [mem_psSet, wid_coordsV] at h h'
  constructor <;> (apply Fin.ext; omega)

/-- The whole of the partial sums is the tiles' pieces. -/
theorem ps_pieces (d : Dev nD) (fp : Buf (Elt F) (psLoc d)) :
    (psLoc d ↦{fullShare} fp : sProp 𝕄) = bigSep Finset.univ fun c : Fin 2 => bigSep Finset.univ fun i : Fin 16 => psLoc d ↦[psP c i]{fullShare} fp := by
  have hc : ∀ c : Fin 2, (bigSep Finset.univ fun i : Fin 16 => (psLoc d ↦[psP c i]{fullShare} fp : sProp 𝕄))
      = psLoc d ↦[(Finset.univ : Finset (Fin 16)).biUnion (psP c)]{fullShare} fp := fun c =>
    (pointsTo_biUnion Finset.univ (ℓ := psLoc d) (psP c) (fun i _ j _ hij => Finset.disjoint_left.mpr fun x hx hx' => hij (psP_inj hx hx').2)).symm
  rw [bigSep_congr fun c _ => hc c, ← pointsTo_biUnion Finset.univ (ℓ := psLoc d) (fun c => (Finset.univ : Finset (Fin 16)).biUnion (psP c))
    (fun c _ c' _ hcc => Finset.disjoint_left.mpr fun x hx hx' => by
      obtain ⟨i, -, hi⟩ := Finset.mem_biUnion.mp hx
      obtain ⟨i', -, hi'⟩ := Finset.mem_biUnion.mp hx'
      exact hcc (psP_inj hi hi').1)]
  rw [show ((Finset.univ : Finset (Fin 2)).biUnion fun c => (Finset.univ : Finset (Fin 16)).biUnion (psP c)) = Finset.univ from
    Finset.eq_univ_iff_forall.mpr fun x => by
      have hx : (x 0).val < 32 := (x 0).isLt
      refine Finset.mem_biUnion.mpr ⟨⟨(x 0).val % 2, by omega⟩, Finset.mem_univ _, Finset.mem_biUnion.mpr ⟨⟨(x 0).val / 2, by omega⟩, Finset.mem_univ _, ?_⟩⟩
      rw [mem_psSet, wid_coordsV]; show (x 0).val = 2 * ((x 0).val / 2) + (x 0).val % 2; omega]

/-- What the call takes for the two SparseCores (and what it hands back, at other partial sums): the three arrays whole. -/
theorem cores_eq (d : Dev nD) (fp : Buf (Elt F) (psLoc d)) :
    (bigSep Finset.univ fun c : Fin 2 => coreRes m d c fp : sProp 𝕄)
      = iprop((flatLoc d ↦{fullShare} m (flatLoc d)) ∗ (idsLoc d ↦{fullShare} m (idsLoc d)) ∗ (psLoc d ↦{fullShare} fp)) := by
  unfold coreRes
  rw [bigSep_sep', bigSep_sep', ps_pieces, Transfers.pointsTo_deal (Finset.univ : Finset (Fin 2)) ⟨0, Finset.mem_univ _⟩ fullShare (ℓ := flatLoc d) (f := m (flatLoc d)),
    Transfers.pointsTo_deal (Finset.univ : Finset (Fin 2)) ⟨0, Finset.mem_univ _⟩ fullShare (ℓ := idsLoc d) (f := m (idsLoc d))]
  rfl

theorem st0_eq (d : Dev nD) : (bigSep Finset.univ fun c : Fin ((K (F := F)).nCore 0) => (P m).st 0 d c)
    = iprop((flatLoc d ↦{fullShare} m (flatLoc d)) ∗ (idsLoc d ↦{fullShare} m (idsLoc d)) ∗ (psLoc d ↦{fullShare} m (psLoc d))) := cores_eq m d _
theorem dn0_eq (d : Dev nD) : (bigSep Finset.univ fun c : Fin ((K (F := F)).nCore 0) => (P m).dn 0 d c)
    = iprop((flatLoc d ↦{fullShare} m (flatLoc d)) ∗ (idsLoc d ↦{fullShare} m (idsLoc d)) ∗ (psLoc d ↦{fullShare} psOut m d)) := cores_eq m d _

end Cert.Proof.Seg
-- ==== Proof.TcBody.lean ====
/-
The TensorCore bodies: what one point of the accumulation leaves, and what the combining call leaves.
-/
module

public import proofs.«01_k».proof.Proof.Pay
public import Idealize.ShloMosaic.Lib.Pipeline.FrameBody
public import Idealize.ShloMosaic.Lib.Pipeline.Value

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

open Idealize.ShloMosaic.TcCoe

/-! ## Loads and stores of a whole buffer -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer reads its contents. -/
theorem loadO (d : Dev nD) {s : Shape} {e : EltTy} (M : Memref sig .tc .vmem s e) {off : Fin s.rank → Nat}
    (h : off = fun _ => 0) (inb : ∀ a, off a + s.size a ≤ s.size a) (hl : M.view.LoadsAt (Rect.unit off s.size inb).toLoadRect)
    (X : s.Idx → Elt F e) (k : (s.Idx → Elt F e) → Prog (TpuEff nD τ sig (Elt F) Λ₀ .tc) PUnit) (Q : PUnit → sProp 𝕄) :
    (owns (T d : Thread nD τ) M fullShare X : sProp 𝕄)
      ⊢ iprop((owns (T d : Thread nD τ) M fullShare X -∗ wp frame (wpE defs₀ 𝒱₀ (T d : Thread nD τ) none) Set.univ (k X) Q)
        -∗ wp frame (wpE defs₀ 𝒱₀ (T d : Thread nD τ) none) Set.univ (.op (.load M (Rect.unit off s.size inb).toLoadRect hl) k) Q) := by
  unfold owns
  iintro ⟨%f, %hf, H⟩ Hk
  iapply (wp_load 𝒱₀ (T d : Thread nD τ) none Set.univ (m := M) (r := (Rect.unit off s.size inb).toLoadRect) (View.setOn_subset_set _ _)) $$ H
  iintro H
  have e1 : M.view.readAt (Elt F) (Rect.unit off s.size inb).toLoadRect f = X := by
    rw [View.readAt_eq_ld, hf]; exact View.ld_unit_zero h inb X
  rw [e1]
  iapply Hk
  iexists f
  isplitr
  · ipureintro; exact hf
  · iexact H

/-- A store over a whole buffer leaves its payload. -/
theorem storeO [∀ e, Nonempty (Elt F e)] (d : Dev nD) {s : Shape} {e : EltTy} (M : Memref sig .tc .vmem s e) {off : Fin s.rank → Nat}
    (h : off = fun _ => 0) (inb : ∀ a, off a + s.size a ≤ s.size a)
    (X w : s.Idx → Elt F e) (hx : (M.access (Rect.unit off s.size inb)).Stores Finset.univ)
    (hm : (Finset.univ : Finset (Rect.unit off s.size inb).shape.Idx) = Finset.univ ∨ ∀ a, (Rect.unit off s.size inb).stride a = 1)
    (k : PUnit → Prog (TpuEff nD τ sig (Elt F) Λ₀ .tc) PUnit) (Q : PUnit → sProp 𝕄) :
    (owns (T d : Thread nD τ) M fullShare X : sProp 𝕄)
      ⊢ iprop((owns (T d : Thread nD τ) M fullShare w -∗ wp frame (wpE defs₀ 𝒱₀ (T d : Thread nD τ) none) Set.univ (k ⟨⟩) Q)
        -∗ wp frame (wpE defs₀ 𝒱₀ (T d : Thread nD τ) none) Set.univ (.op (.store M (Rect.unit off s.size inb) w Finset.univ hx hm) k) Q) := by
  unfold owns
  iintro ⟨%f, %hf, H⟩ Hk
  iapply (wp_store 𝒱₀ (T d : Thread nD τ) none Set.univ (m := M) (r := Rect.unit off s.size inb) (Mk := Finset.univ) (View.set_slice_subset _ _)) $$ H
  iintro H
  iapply Hk
  iexists _
  isplitr
  rotate_left
  · iexact H
  · ipureintro
    subst h
    funext x
    have e := View.read_slice_write_emb (v := M.view) (Rect.unit (fun _ => 0) s.size inb) f w (Finset.mem_univ (α := (Rect.unit (fun _ => 0) s.size inb).shape.Idx) x)
    rw [show (Rect.unit (fun _ => 0) s.size inb).emb x = x from Rect.emb_whole_apply s x] at e
    exact e

/-! ## The accumulation body -/

variable [∀ e, Nonempty (Elt F e)] (d : Dev nD) (i : grid1.Coords)
  (a1 : Memref sig .tc .vmem S1x1x2048 .i32) (h1 : a1.IsWhole) (a2 : Memref sig .tc .vmem S2048x128 .f32) (h2 : a2.IsWhole)
  (a3 : Memref sig .tc .vmem S16x128 .f32) (h3 : a3.IsWhole) (a4 : Memref sig .tc .vmem S16x128 .f32) (h4 : a4.IsWhole)
  (a5 : Memref sig .tc .vmem S16x128 .f32) (h5 : a5.IsWhole) (a6 : Memref sig .tc .vmem S16x128 .f32) (h6 : a6.IsWhole)
  (x1 : Vec F S1x1x2048 .i32) (x2 : Vec F S2048x128 .f32) (x3 x4 x5 x6 : Vec F S16x128 .f32)

/-- Whether this is the first point of the grid, as the body asks. -/
def fstC (i : grid1.Coords) : Prop :=
  Scalar.cmpi .ne (Scalar.extui (Scalar.cmpi .eq (BitVec.ofNat 32 (i 0).val) 0#32) : BitVec 32) 0#32 = 1#1

/-- At the first point the two accumulators are zeroed, then each takes the block in; the outputs keep what they held. -/
theorem body1_first (hc : fstC i) (hl : k1_cond2 i ≠ 1#1) :
    iprop(owns (T d : Thread nD τ) a1 fullShare x1 ∗ owns (T d : Thread nD τ) a2 fullShare x2 ∗ owns (T d : Thread nD τ) a5 fullShare x5
        ∗ (owns (T d : Thread nD τ) a6 fullShare x6 : sProp 𝕄))
      ⊢ wp frame (wpE defs₀ 𝒱₀ (T d : Thread nD τ) none) Set.univ (cc1__tc_body (F := F) i a1 h1 a2 h2 a3 h3 a4 h4 a5 h5 a6 h6) fun _ =>
        iprop(owns (T d : Thread nD τ) a1 fullShare x1 ∗ owns (T d : Thread nD τ) a2 fullShare x2
          ∗ owns (T d : Thread nD τ) a5 fullShare (k1_pay4 x1 (k1_pay1 (F := F)) x2) ∗ (owns (T d : Thread nD τ) a6 fullShare (k1_pay5 x1 (k1_pay2 (F := F))) : sProp 𝕄)) := by
  rw [cc1__tc_body_eq_skeleton]
  unfold cc1__tc_body_skel
  unfold fstC at hc
  dsimp only
  rw [dif_pos hc, dif_neg hl]
  simp only [Prog.lift, Prog.bind_op, Prog.bind_ret, Prog.pure_eq_ret]
  iintro ⟨H1, H2, H5, H6⟩
  iapply (loadO d a5 hz2 _ _ x5) $$ H5; iintro H5
  iapply (storeO d a5 hz2 _ x5 (k1_pay1 (F := F))) $$ H5; iintro H5
  iapply (loadO d a6 hz2 _ _ x6) $$ H6; iintro H6
  iapply (storeO d a6 hz2 _ x6 (k1_pay2 (F := F))) $$ H6; iintro H6
  iapply (loadO d a1 hz3 _ _ x1) $$ H1; iintro H1
  iapply (loadO d a5 hz2 _ _ _) $$ H5; iintro H5
  iapply (loadO d a2 hz2 _ _ x2) $$ H2; iintro H2
  iapply (loadO d a5 hz2 _ _ _) $$ H5; iintro H5
  iapply (storeO d a5 hz2 _ _ _) $$ H5; iintro H5
  iapply (loadO d a6 hz2 _ _ _) $$ H6; iintro H6
  iapply (loadO d a6 hz2 _ _ _) $$ H6; iintro H6
  iapply (storeO d a6 hz2 _ _ _) $$ H6; iintro H6
  rw [wp_ret]
  imodintro
  isplitl [H1]; · iexact H1
  isplitl [H2]; · iexact H2
  isplitl [H5]; · iexact H5
  iexact H6

/-- At a point in between each accumulator takes the block in; the outputs keep what they held. -/
theorem body1_mid (hc : ¬ fstC i) (hl : k1_cond2 i ≠ 1#1) :
    iprop(owns (T d : Thread nD τ) a1 fullShare x1 ∗ owns (T d : Thread nD τ) a2 fullShare x2 ∗ owns (T d : Thread nD τ) a5 fullShare x5
        ∗ (owns (T d : Thread nD τ) a6 fullShare x6 : sProp 𝕄))
      ⊢ wp frame (wpE defs₀ 𝒱₀ (T d : Thread nD τ) none) Set.univ (cc1__tc_body (F := F) i a1 h1 a2 h2 a3 h3 a4 h4 a5 h5 a6 h6) fun _ =>
        iprop(owns (T d : Thread nD τ) a1 fullShare x1 ∗ owns (T d : Thread nD τ) a2 fullShare x2
          ∗ owns (T d : Thread nD τ) a5 fullShare (k1_pay4 x1 x5 x2) ∗ (owns (T d : Thread nD τ) a6 fullShare (k1_pay5 x1 x6) : sProp 𝕄)) := by
  rw [cc1__tc_body_eq_skeleton]
  unfold cc1__tc_body_skel
  unfold fstC at hc
  dsimp only
  rw [dif_neg hc, dif_neg hl]
  simp only [Prog.lift, Prog.bind_op, Prog.bind_ret, Prog.pure_eq_ret]
  iintro ⟨H1, H2, H5, H6⟩
  iapply (loadO d a1 hz3 _ _ x1) $$ H1; iintro H1
  iapply (loadO d a5 hz2 _ _ _) $$ H5; iintro H5
  iapply (loadO d a2 hz2 _ _ x2) $$ H2; iintro H2
  iapply (loadO d a5 hz2 _ _ _) $$ H5; iintro H5
  iapply (storeO d a5 hz2 _ _ _) $$ H5; iintro H5
  iapply (loadO d a6 hz2 _ _ _) $$ H6; iintro H6
  iapply (loadO d a6 hz2 _ _ _) $$ H6; iintro H6
  iapply (storeO d a6 hz2 _ _ _) $$ H6; iintro H6
  rw [wp_ret]
  imodintro
  isplitl [H1]; · iexact H1
  isplitl [H2]; · iexact H2
  isplitl [H5]; · iexact H5
  iexact H6

/-- At the last point each accumulator takes the block in, and the outputs take the accumulators. -/
theorem body1_last (hc : ¬ fstC i) (hl : k1_cond2 i = 1#1) :
    iprop(owns (T d : Thread nD τ) a1 fullShare x1 ∗ owns (T d : Thread nD τ) a2 fullShare x2 ∗ owns (T d : Thread nD τ) a5 fullShare x5
        ∗ owns (T d : Thread nD τ) a6 fullShare x6 ∗ owns (T d : Thread nD τ) a3 fullShare x3 ∗ (owns (T d : Thread nD τ) a4 fullShare x4 : sProp 𝕄))
      ⊢ wp frame (wpE defs₀ 𝒱₀ (T d : Thread nD τ) none) Set.univ (cc1__tc_body (F := F) i a1 h1 a2 h2 a3 h3 a4 h4 a5 h5 a6 h6) fun _ =>
        iprop(owns (T d : Thread nD τ) a1 fullShare x1 ∗ owns (T d : Thread nD τ) a2 fullShare x2
          ∗ owns (T d : Thread nD τ) a5 fullShare (k1_pay4 x1 x5 x2) ∗ owns (T d : Thread nD τ) a6 fullShare (k1_pay5 x1 x6)
          ∗ owns (T d : Thread nD τ) a3 fullShare (k1_pay4 x1 x5 x2) ∗ (owns (T d : Thread nD τ) a4 fullShare (k1_pay5 x1 x6) : sProp 𝕄)) := by
  rw [cc1__tc_body_eq_skeleton]
  unfold cc1__tc_body_skel
  unfold fstC at hc
  dsimp only
  rw [dif_neg hc, dif_pos hl]
  simp only [Prog.lift, Prog.bind_op, Prog.bind_ret, Prog.pure_eq_ret]
  iintro ⟨H1, H2, H5, H6, H3, H4⟩
  iapply (loadO d a1 hz3 _ _ x1) $$ H1; iintro H1
  iapply (loadO d a5 hz2 _ _ _) $$ H5; iintro H5
  iapply (loadO d a2 hz2 _ _ x2) $$ H2; iintro H2
  iapply (loadO d a5 hz2 _ _ _) $$ H5; iintro H5
  iapply (storeO d a5 hz2 _ _ _) $$ H5; iintro H5
  iapply (loadO d a6 hz2 _ _ _) $$ H6; iintro H6
  iapply (loadO d a6 hz2 _ _ _) $$ H6; iintro H6
  iapply (storeO d a6 hz2 _ _ _) $$ H6; iintro H6
  iapply (loadO d a5 hz2 _ _ _) $$ H5; iintro H5
  iapply (loadO d a3 hz2 _ _ _) $$ H3; iintro H3
  iapply (storeO d a3 hz2 _ _ _) $$ H3; iintro H3
  iapply (loadO d a6 hz2 _ _ _) $$ H6; iintro H6
  iapply (loadO d a4 hz2 _ _ _) $$ H4; iintro H4
  iapply (storeO d a4 hz2 _ _ _) $$ H4; iintro H4
  rw [wp_ret]
  imodintro
  isplitl [H1]; · iexact H1
  isplitl [H2]; · iexact H2
  isplitl [H5]; · iexact H5
  isplitl [H6]; · iexact H6
  isplitl [H3]; · iexact H3
  iexact H4

/-! ## The combining body -/

/-- The combining body stores the quotient of the sums by the counts. -/
theorem body2 (b0 : Memref sig .tc .vmem S32x17x128 .f32) (g0 : b0.IsWhole) (y0 : Vec F S32x17x128 .f32) :
    iprop(owns (T d : Thread nD τ) b0 fullShare y0 ∗ owns (T d : Thread nD τ) a3 fullShare x3 ∗ owns (T d : Thread nD τ) a4 fullShare x4
        ∗ (owns (T d : Thread nD τ) a5 fullShare x5 : sProp 𝕄))
      ⊢ wp frame (wpE defs₀ 𝒱₀ (T d : Thread nD τ) none) Set.univ (cc2__combine_body (F := F) b0 g0 a3 h3 a4 h4 a5 h5) fun _ =>
        iprop(owns (T d : Thread nD τ) b0 fullShare y0 ∗ owns (T d : Thread nD τ) a3 fullShare x3 ∗ owns (T d : Thread nD τ) a4 fullShare x4
          ∗ (owns (T d : Thread nD τ) a5 fullShare (k2_pay1 y0 x3 x4) : sProp 𝕄)) := by
  rw [cc2__combine_body_eq_skeleton]
  unfold cc2__combine_body_skel
  simp only [Prog.lift, Prog.bind_op, Prog.bind_ret, Prog.pure_eq_ret]
  iintro ⟨H0, H3, H4, H5⟩
  iapply (loadO d b0 hz3 _ _ _) $$ H0; iintro H0
  iapply (loadO d a3 hz2 _ _ _) $$ H3; iintro H3
  iapply (loadO d a4 hz2 _ _ _) $$ H4; iintro H4
  iapply (loadO d a5 hz2 _ _ _) $$ H5; iintro H5
  iapply (storeO d a5 hz2 _ _ _) $$ H5; iintro H5
  rw [wp_ret]
  imodintro
  isplitl [H0]; · iexact H0
  isplitl [H3]; · iexact H3
  isplitl [H4]; · iexact H4
  iexact H5

end Cert.Proof.Seg
-- ==== Proof.TcRegion.lean ====
/-
The two TensorCore pipelines: what their buffers hold at every point.
-/
module

public import proofs.«01_k».proof.Proof.TcBody
public import proofs.«01_k».proof.Proof.Gen.KernelIdeal.Points

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ
local notation "flatM" => (Memref.whole Cert.KernelIdeal.main_arg0_scv : Memref Cert.KernelIdeal.sig Kind.scVector Space.hbm Cert.KernelIdeal.S32768x128 EltTy.f32)
local notation "idsM" => (Memref.whole Cert.KernelIdeal.main_arg1_scv : Memref Cert.KernelIdeal.sig Kind.scVector Space.hbm Cert.KernelIdeal.S32768 EltTy.i32)
local notation "psM" => (Memref.whole Cert.KernelIdeal.main_v0_scv : Memref Cert.KernelIdeal.sig Kind.scVector Space.hbm Cert.KernelIdeal.S32x17x128 EltTy.f32)
local notation "idsB" => (Memref.whole Cert.KernelIdeal.cc0_scratch0 : Memref Cert.KernelIdeal.sig Kind.scVector Space.vmem Cert.KernelIdeal.S576 EltTy.i32)
local notation "bndB" => (Memref.whole Cert.KernelIdeal.cc0_scratch1 : Memref Cert.KernelIdeal.sig Kind.scVector Space.smem Cert.KernelIdeal.S17 EltTy.i32)
local notation "vecB" => (Memref.whole Cert.KernelIdeal.cc0_scratch2 : Memref Cert.KernelIdeal.sig Kind.scVector Space.vmem Cert.KernelIdeal.S32 EltTy.i32)
local notation "accB" => (Memref.whole Cert.KernelIdeal.cc0_scratch3 : Memref Cert.KernelIdeal.sig Kind.scVector Space.vmem Cert.KernelIdeal.S17x128 EltTy.f32)
local notation "rowB" => (Memref.whole Cert.KernelIdeal.cc0_scratch4 : Memref Cert.KernelIdeal.sig Kind.scVector Space.vmem Cert.KernelIdeal.S2x288x128 EltTy.f32)

open Idealize.ShloMosaic.TcCoe

/-! ## What the accumulation holds after each point -/

/-- The block of segment numbers point `n` reads: those from row `2048 (9 + n)` on. -/
def tcIds (fi : S32768.Idx → BitVec 32) (n : ℕ) : Vec F S1x1x2048 .i32 := fun x => idsN fi (2048 * (9 + n) + (x 2).val)
/-- The block of rows point `n` reads. -/
def tcFlat (ff : S32768x128.Idx → F .f32) (n : ℕ) : Vec F S2048x128 .f32 := fun x => flatN ff (2048 * (9 + n) + (x 0).val) (x 1).val
/-- The segment numbers in blocks of 2048. -/
def v1V (fi : S32768.Idx → BitVec 32) : S16x1x2048.Idx → BitVec 32 := fun x => idsN fi (2048 * (x 0).val + (x 2).val)

/-- The sums after point `n`. -/
def tcS (fi : S32768.Idx → BitVec 32) (ff : S32768x128.Idx → F .f32) : ℕ → Vec F S16x128 .f32
  | 0 => k1_pay4 (tcIds (F := F) fi 0) (k1_pay1 (F := F)) (tcFlat ff 0)
  | n + 1 => k1_pay4 (tcIds (F := F) fi (n + 1)) (tcS fi ff n) (tcFlat ff (n + 1))
/-- The counts after point `n`. -/
def tcC (fi : S32768.Idx → BitVec 32) : ℕ → Vec F S16x128 .f32
  | 0 => k1_pay5 (tcIds (F := F) fi 0) (k1_pay2 (F := F))
  | n + 1 => k1_pay5 (tcIds (F := F) fi (n + 1)) (tcC fi n)

/-! ## The two pipelines' data -/

abbrev sc0 : Memref sig .tc .vmem S16x128 .f32 := Memref.whole cc1_scratch0
abbrev sc1 : Memref sig .tc .vmem S16x128 .f32 := Memref.whole cc1_scratch1

/-- The two accumulators before point `n`: at any contents before the first, then at what the points before it left. -/
def scr (fi : S32768.Idx → BitVec 32) (ff : S32768x128.Idx → F .f32) (c : Dev nD) : ℕ → sProp 𝕄
  | 0 => iprop((∃ x, owns (T c : Thread nD τ) sc0 fullShare x) ∗ ∃ x, owns (T c : Thread nD τ) sc1 fullShare x)
  | n + 1 => iprop(owns (T c : Thread nD τ) sc0 fullShare (tcS fi ff n) ∗ owns (T c : Thread nD τ) sc1 fullShare (tcC (F := F) fi n))

/-- The combining call's staging buffers, which the accumulation does not touch. -/
def rest1 (c : Dev nD) : sProp 𝕄 :=
  iprop((∃ f, ((T c : Thread nD τ).loc cc2_stg0_0) ↦{fullShare} f) ∗ (∃ f, ((T c : Thread nD τ).loc cc2_stg1_0) ↦{fullShare} f)
    ∗ (∃ f, ((T c : Thread nD τ).loc cc2_stg2_0) ↦{fullShare} f) ∗ ∃ f, ((T c : Thread nD τ).loc cc2_stg3_0) ↦{fullShare} f)

/-- The pairs recorded at a level at most `b`. -/
def recd (b : ℕ) (c : Dev nD) : Set (SemLoc sig × HIx 1) := {p | (K (F := F)).lev ((T c : Thread nD τ), p.1) p.2 ≤ b}

/-- The accumulation: the blocks of segment numbers and rows, the sums and the counts. -/
def dat1 (b : ℕ) (fi : S32768.Idx → BitVec 32) (ff : S32768x128.Idx → F .f32) (A2 A3 : S16x128.Idx → F .f32) (c : Dev nD) :
    Pipeline.Dat τ (Elt F) (HIx 1) ℕ UU ℕ cfg1 c where
  A w := match w with
    | ⟨0, _⟩ => (v1V fi : S16x1x2048.Idx → BitVec 32)
    | ⟨1, _⟩ => ff
    | ⟨2, _⟩ => A2
    | ⟨3, _⟩ => A3
    | ⟨_ + 4, h⟩ => absurd h (Nat.not_lt.2 (Nat.le_add_left _ _))
  after w t := match w with
    | ⟨0, _⟩ => tcIds (F := F) fi t.val
    | ⟨1, _⟩ => tcFlat ff t.val
    | ⟨2, _⟩ => tcS fi ff t.val
    | ⟨3, _⟩ => tcC fi t.val
    | ⟨_ + 4, h⟩ => absurd h (Nat.not_lt.2 (Nat.le_add_left _ _))
  Φ t := iprop(scr fi ff c t.val ∗ rest1 c)
  q _ := fullShare
  owed _ := 0
  recorded _ := recd (F := F) b c

/-- The combining call: the partial sums, the sums, the counts, the result. -/
def dat2 (b : ℕ) (ps : S32x17x128.Idx → F .f32) (s k A3 : S16x128.Idx → F .f32) (c : Dev nD) :
    Pipeline.Dat τ (Elt F) (HIx 1) ℕ UU ℕ cfg2 c where
  A w := match w with
    | ⟨0, _⟩ => ps
    | ⟨1, _⟩ => s
    | ⟨2, _⟩ => k
    | ⟨3, _⟩ => A3
    | ⟨_ + 4, h⟩ => absurd h (Nat.not_lt.2 (Nat.le_add_left _ _))
  after w t := match w with
    | ⟨0, _⟩ => ps
    | ⟨1, _⟩ => s
    | ⟨2, _⟩ => k
    | ⟨3, _⟩ => k2_pay1 ps s k
    | ⟨_ + 4, h⟩ => absurd h (Nat.not_lt.2 (Nat.le_add_left _ _))
  Φ t := Pipeline.scopedRest spec2 c
  q _ := fullShare
  owed _ := 0
  recorded _ := recd (F := F) b c

section One

variable (b : ℕ) (fi : S32768.Idx → BitVec 32) (ff : S32768x128.Idx → F .f32) (A2 A3 : S16x128.Idx → F .f32) (c : Dev nD)

/-- The first window's index at a point is nine more than the point, and so is the second's. -/
theorem index1 : ∀ t : Fin grid1.N, (win1_0.index t 0 = 9 + t.val ∧ win1_0.index t 1 = 0 ∧ win1_0.index t 2 = 0)
    ∧ win1_1.index t 0 = 9 + t.val ∧ win1_1.index t 1 = 0 := by decide +kernel

theorem before1_0 (t : Fin cfg1.N) (d) : (dat1 b fi ff A2 A3 c).before 0 t d = tcIds (F := F) fi t.val := by
  unfold Pipeline.Dat.before
  rw [if_pos (fetch1_0 t)]
  show (dat1 b fi ff A2 A3 c).blockOf 0 t = _
  funext x
  unfold Pipeline.Dat.blockOf
  rw [View.read_apply]
  have hi := (index1 t).1
  show idsN fi (2048 * (win1_0.index t 0 * 1 + 1 * (x 0).val) + (win1_0.index t 2 * 2048 + 1 * (x 2).val)) = idsN fi (2048 * (9 + t.val) + (x 2).val)
  have h0 : (x 0).val < 1 := (x 0).isLt
  rw [hi.1, hi.2.2]
  congr 1
  omega

theorem before1_1 (t : Fin cfg1.N) (d) : (dat1 b fi ff A2 A3 c).before 1 t d = tcFlat ff t.val := by
  unfold Pipeline.Dat.before
  rw [if_pos (fetch1_1 t)]
  show (dat1 b fi ff A2 A3 c).blockOf 1 t = _
  funext x
  unfold Pipeline.Dat.blockOf
  rw [View.read_apply]
  have hi := (index1 t).2
  have ht : t.val < 7 := by have := t.isLt; have hN : cfg1.N = 7 := N_1; omega
  have h0 : (x 0).val < 2048 := (x 0).isLt
  have h1 : (x 1).val < 128 := (x 1).isLt
  unfold tcFlat flatN
  rw [dif_pos ⟨by omega, h1⟩]
  show ff _ = ff _
  congr 1
  funext a
  apply Fin.ext
  match a with
  | ⟨0, _⟩ => show win1_1.index t 0 * 2048 + 1 * (x 0).val = 2048 * (9 + t.val) + (x 0).val; rw [hi.1]; omega
  | ⟨1, _⟩ => show win1_1.index t 1 * 128 + 1 * (x 1).val = (x 1).val; rw [hi.2]; omega

theorem cond1 : ∀ t : Fin grid1.N, (fstC (grid1.coords t) ↔ t.val = 0) ∧ (k1_cond2 (grid1.coords t) = 1#1 ↔ t.val = 6) := by
  unfold fstC; decide +kernel

theorem phi1_castSucc (t : Fin cfg1.N) : (dat1 b fi ff A2 A3 c).Φ t.castSucc = iprop(scr fi ff c t.val ∗ rest1 c) := rfl
theorem phi1_succ (t : Fin cfg1.N) : (dat1 b fi ff A2 A3 c).Φ t.succ = iprop(scr fi ff c (t.val + 1) ∗ rest1 c) := rfl
theorem owes1_succ (t : Fin cfg1.N) : ((dat1 b fi ff A2 A3 c).owesAt (none : HIx 1) t.succ : sProp 𝕄) = (dat1 b fi ff A2 A3 c).owesAt (none : HIx 1) t.castSucc := rfl

theorem idle1_23 (t : Fin cfg1.N) (h : t.val ≠ 6) : cfg1.idle 2 (cfg1.grid.coords t) = true ∧ cfg1.idle 3 (cfg1.grid.coords t) = true
    ∧ (cfg1.win 2).flush t = false ∧ (cfg1.win 3).flush t = false := by
  have hc : ¬ k1_cond2 (grid1.coords t) = 1#1 := fun e => h ((cond1 t).2.mp e)
  have ht : t.val < 7 := by have := t.isLt; have hN : cfg1.N = 7 := N_1; omega
  have e2 : (!(k1_cond2 (grid1.coords t) == 1#1)) = true := by simpa using hc
  refine ⟨e2, e2, ?_, ?_⟩
  · rw [← Bool.not_eq_true]; intro e; have := (flush1_2 t).mp e; omega
  · rw [← Bool.not_eq_true]; intro e; have := (flush1_3 t).mp e; omega

theorem idle1_last (t : Fin cfg1.N) (h : t.val = 6) : cfg1.idle 2 (cfg1.grid.coords t) = false ∧ cfg1.idle 3 (cfg1.grid.coords t) = false := by
  have hc : k1_cond2 (grid1.coords t) = 1#1 := (cond1 t).2.mpr h
  have e2 : (!(k1_cond2 (grid1.coords t) == 1#1)) = false := by simpa using hc
  exact ⟨e2, e2⟩

variable [∀ e, Nonempty (Elt F e)]

theorem body1_eq (t : Fin cfg1.N) : (defs₀ (F := F) .tc cfg1.body (cfg1.bodyArgs t (cfg1.slots t)))
    = cc1__tc_body (grid1.coords t) (st1_0 t) (hstage1_0 ((cfg1.slots t 0).cast nbuf1_0)) (st1_1 t) (hstage1_1 ((cfg1.slots t 1).cast nbuf1_1))
        (st1_2 t) (hstage1_2 ((cfg1.slots t 2).cast nbuf1_2)) (st1_3 t) (hstage1_3 ((cfg1.slots t 3).cast nbuf1_3))
        sc0 (Memref.isWhole_whole _) sc1 (Memref.isWhole_whole _) := rfl

/-- Every point of the accumulation keeps the invariant. -/
theorem obl1 : Pipeline.BodyObligation (dat1 b fi ff A2 A3 c) (defs₀ (F := F)) 𝒱₀ (none : HIx 1) Set.univ := fun t => by
  rw [bigSep_W1, bigSep_W1, phi1_castSucc, phi1_succ, owes1_succ]
  have eB := body1_eq (F := F) t
  generalize (defs₀ (F := F) .tc cfg1.body (cfg1.bodyArgs t (cfg1.slots t))) = pB at eB ⊢
  generalize (dat1 b fi ff A2 A3 c).owesAt (none : HIx 1) t.castSucc = OW
  have ht : t.val < 7 := by have := t.isLt; have hN : cfg1.N = 7 := N_1; omega
  by_cases h6 : t.val = 6
  · have hi := idle1_last t h6
    have hc : ¬ fstC (grid1.coords t) := fun e => by have := (cond1 t).1.mp e; omega
    have hl : k1_cond2 (grid1.coords t) = 1#1 := (cond1 t).2.mpr h6
    rw [hi.1]
    try rw [hi.2]
    have hs5 : scr fi ff c t.val = iprop(owns (T c : Thread nD τ) sc0 fullShare (tcS fi ff 5) ∗ owns (T c : Thread nD τ) sc1 fullShare (tcC (F := F) fi 5)) := by rw [h6]; rfl
    have hs6 : scr fi ff c (t.val + 1) = iprop(owns (T c : Thread nD τ) sc0 fullShare (k1_pay4 (tcIds (F := F) fi t.val) (tcS fi ff 5) (tcFlat ff t.val))
        ∗ owns (T c : Thread nD τ) sc1 fullShare (k1_pay5 (tcIds (F := F) fi t.val) (tcC (F := F) fi 5))) := by rw [h6]; rfl
    have ha2 : (dat1 b fi ff A2 A3 c).after 2 t = k1_pay4 (tcIds (F := F) fi t.val) (tcS fi ff 5) (tcFlat ff t.val) := by
      show tcS fi ff t.val = _; rw [h6]; rfl
    have ha3 : (dat1 b fi ff A2 A3 c).after 3 t = k1_pay5 (tcIds (F := F) fi t.val) (tcC (F := F) fi 5) := by
      show tcC fi t.val = _; rw [h6]; rfl
    rw [hs5, hs6]
    rw [ha2, ha3]
    iintro ⟨⟨⟨Hs0, Hs1⟩, Hr⟩, HO, ⟨%d0, H0⟩, ⟨%d1, H1⟩, ⟨%d2, H2⟩, ⟨%d3, H3⟩⟩
    subst eB; iapply (wp_wand_r frame _ _)
    isplitl [Hs0 Hs1 H0 H1 H2 H3]
    · iapply (body1_last c (grid1.coords t) (st1_0 t) _ (st1_1 t) _ (st1_2 t) _ (st1_3 t) _ sc0 _ sc1 _ (tcIds (F := F) fi t.val) (tcFlat ff t.val) _ _ (tcS fi ff 5) (tcC (F := F) fi 5) hc hl)
      isplitl [H0]; · rw [before1_0]; iexact H0
      isplitl [H1]; · rw [before1_1]; iexact H1
      isplitl [Hs0]; · iexact Hs0
      isplitl [Hs1]; · iexact Hs1
      isplitl [H2]; · iexact H2
      iexact H3
    · iintro %_ ⟨H0, H1, Hs0, Hs1, H2, H3⟩
      isplitl [Hs0 Hs1 Hr]
      · isplitl [Hs0 Hs1]
        · isplitl [Hs0]; · iexact Hs0
          iexact Hs1
        iexact Hr
      isplitl [HO]; · iexact HO
      isplitl [H0]; · iexact H0
      isplitl [H1]; · iexact H1
      isplitl [H2]; · iexact H2
      iexact H3
  · have hi := idle1_23 t h6
    have hl : k1_cond2 (grid1.coords t) ≠ 1#1 := fun e => h6 ((cond1 t).2.mp e)
    rw [hi.1, hi.2.2.1]
    try rw [hi.2.1]
    try rw [hi.2.2.2]
    by_cases h0 : t.val = 0
    · have hc : fstC (grid1.coords t) := (cond1 t).1.mpr h0
      have hs0 : scr fi ff c t.val = iprop((∃ x, owns (T c : Thread nD τ) sc0 fullShare x) ∗ ∃ x, owns (T c : Thread nD τ) sc1 fullShare x) := by rw [h0]; rfl
      have hs1 : scr fi ff c (t.val + 1) = iprop(owns (T c : Thread nD τ) sc0 fullShare (k1_pay4 (tcIds (F := F) fi t.val) (k1_pay1 (F := F)) (tcFlat ff t.val))
        ∗ owns (T c : Thread nD τ) sc1 fullShare (k1_pay5 (tcIds (F := F) fi t.val) (k1_pay2 (F := F)))) := by rw [h0]; rfl
      rw [hs0, hs1]
      iintro ⟨⟨⟨⟨%x5, Hs0⟩, ⟨%x6, Hs1⟩⟩, Hr⟩, HO, ⟨%d0, H0⟩, ⟨%d1, H1⟩, H2, H3⟩
      subst eB; iapply (wp_wand_r frame _ _)
      isplitl [Hs0 Hs1 H0 H1]
      · iapply (body1_first c (grid1.coords t) (st1_0 t) _ (st1_1 t) _ (st1_2 t) _ (st1_3 t) _ sc0 _ sc1 _ (tcIds (F := F) fi t.val) (tcFlat ff t.val) x5 x6 hc hl)
        isplitl [H0]; · rw [before1_0]; iexact H0
        isplitl [H1]; · rw [before1_1]; iexact H1
        isplitl [Hs0]; · iexact Hs0
        iexact Hs1
      · iintro %_ ⟨H0, H1, Hs0, Hs1⟩
        isplitl [Hs0 Hs1 Hr]
        · isplitl [Hs0 Hs1]
          · isplitl [Hs0]; · iexact Hs0
            iexact Hs1
          iexact Hr
        isplitl [HO]; · iexact HO
        isplitl [H0]; · iexact H0
        isplitl [H1]; · iexact H1
        isplitl [H2]; · iexact H2
        iexact H3
    · have hc : ¬ fstC (grid1.coords t) := fun e => h0 ((cond1 t).1.mp e)
      obtain ⟨n, hn⟩ : ∃ n, t.val = n + 1 := ⟨t.val - 1, by omega⟩
      have hs0 : scr fi ff c t.val = iprop(owns (T c : Thread nD τ) sc0 fullShare (tcS fi ff n) ∗ owns (T c : Thread nD τ) sc1 fullShare (tcC (F := F) fi n)) := by rw [hn]; rfl
      have hs1 : scr fi ff c (t.val + 1) = iprop(owns (T c : Thread nD τ) sc0 fullShare (k1_pay4 (tcIds (F := F) fi t.val) (tcS fi ff n) (tcFlat ff t.val))
        ∗ owns (T c : Thread nD τ) sc1 fullShare (k1_pay5 (tcIds (F := F) fi t.val) (tcC (F := F) fi n))) := by rw [hn]; rfl
      rw [hs0, hs1]
      iintro ⟨⟨⟨Hs0, Hs1⟩, Hr⟩, HO, ⟨%d0, H0⟩, ⟨%d1, H1⟩, H2, H3⟩
      subst eB; iapply (wp_wand_r frame _ _)
      isplitl [Hs0 Hs1 H0 H1]
      · iapply (body1_mid c (grid1.coords t) (st1_0 t) _ (st1_1 t) _ (st1_2 t) _ (st1_3 t) _ sc0 _ sc1 _ (tcIds (F := F) fi t.val) (tcFlat ff t.val) (tcS fi ff n) (tcC (F := F) fi n) hc hl)
        isplitl [H0]; · rw [before1_0]; iexact H0
        isplitl [H1]; · rw [before1_1]; iexact H1
        isplitl [Hs0]; · iexact Hs0
        iexact Hs1
      · iintro %_ ⟨H0, H1, Hs0, Hs1⟩
        isplitl [Hs0 Hs1 Hr]
        · isplitl [Hs0 Hs1]
          · isplitl [Hs0]; · iexact Hs0
            iexact Hs1
          iexact Hr
        isplitl [HO]; · iexact HO
        isplitl [H0]; · iexact H0
        isplitl [H1]; · iexact H1
        isplitl [H2]; · iexact H2
        iexact H3

/-- The last point's block of the sums is the whole array. -/
theorem final1_2 : (dat1 b fi ff A2 A3 c).arrAt 2 cfg1.N = tcS fi ff 6 :=
  (dat1 b fi ff A2 A3 c).arrAt_eq_of_cover 2 (tcS fi ff 6)
    (fun t hf => by
      have hN : cfg1.N = 7 := N_1
      have h6 : t.val = 6 := by have := (flush1_2 t).mp hf; have := t.isLt; omega
      show (cfg1.win 2).cut (grid1.coords t) ((dat1 b fi ff A2 A3 c).after 2 t) = _
      have ha : (dat1 b fi ff A2 A3 c).after 2 t = tcS fi ff 6 := by show tcS fi ff t.val = _; rw [h6]
      rw [ha]
      have hz' : (fun a => win1_2.index t a * main_v2_0.ty.shape.size a) = fun _ => 0 := funext fun a => by fin_cases a <;> rfl
      exact (Memref.read_access_unit_zero (Elt F) main_v2_0 hz' (fun a => by rw [congrFun hz' a]; simp) (tcS fi ff 6)).symm)
    fun i => ⟨t1_6, (flush1_2 t1_6).mpr rfl, by
      show i ∈ ((View.whole main_v2_0).slice (win1_2.rect t1_6)).set
      rw [View.set_slice_whole, Rect.mem_set_unit]
      intro a
      have h0 : (i 0 : Nat) < 16 := (i 0).isLt
      have h1 : (i 1 : Nat) < 128 := (i 1).isLt
      match a with
      | ⟨0, _⟩ => show 0 * 16 ≤ (i 0 : Nat) ∧ (i 0 : Nat) < 0 * 16 + 16; omega
      | ⟨1, _⟩ => show 0 * 128 ≤ (i 1 : Nat) ∧ (i 1 : Nat) < 0 * 128 + 128; omega⟩

/-- The last point's block of the counts is the whole array. -/
theorem final1_3 : (dat1 b fi ff A2 A3 c).arrAt 3 cfg1.N = tcC fi 6 :=
  (dat1 b fi ff A2 A3 c).arrAt_eq_of_cover 3 (tcC fi 6)
    (fun t hf => by
      have hN : cfg1.N = 7 := N_1
      have h6 : t.val = 6 := by have := (flush1_3 t).mp hf; have := t.isLt; omega
      show (cfg1.win 3).cut (grid1.coords t) ((dat1 b fi ff A2 A3 c).after 3 t) = _
      have ha : (dat1 b fi ff A2 A3 c).after 3 t = tcC fi 6 := by show tcC fi t.val = _; rw [h6]
      rw [ha]
      have hz' : (fun a => win1_3.index t a * main_v2_1.ty.shape.size a) = fun _ => 0 := funext fun a => by fin_cases a <;> rfl
      exact (Memref.read_access_unit_zero (Elt F) main_v2_1 hz' (fun a => by rw [congrFun hz' a]; simp) (tcC fi 6)).symm)
    fun i => ⟨t1_6, (flush1_3 t1_6).mpr rfl, by
      show i ∈ ((View.whole main_v2_1).slice (win1_3.rect t1_6)).set
      rw [View.set_slice_whole, Rect.mem_set_unit]
      intro a
      have h0 : (i 0 : Nat) < 16 := (i 0).isLt
      have h1 : (i 1 : Nat) < 128 := (i 1).isLt
      match a with
      | ⟨0, _⟩ => show 0 * 16 ≤ (i 0 : Nat) ∧ (i 0 : Nat) < 0 * 16 + 16; omega
      | ⟨1, _⟩ => show 0 * 128 ≤ (i 1 : Nat) ∧ (i 1 : Nat) < 0 * 128 + 128; omega⟩

end One

section Two

variable (b : ℕ) (ps : S32x17x128.Idx → F .f32) (s k A3 : S16x128.Idx → F .f32) (c : Dev nD) [∀ e, Nonempty (Elt F e)]

theorem before2_0 (t : Fin cfg2.N) (d) : (dat2 b ps s k A3 c).before 0 t d = ps := by
  unfold Pipeline.Dat.before
  rw [if_pos (fetch2_0 t)]
  show (dat2 b ps s k A3 c).blockOf 0 t = _
  have hz' : (fun a => win2_0.index t a * main_v0.ty.shape.size a) = fun _ => 0 := funext fun a => by fin_cases a <;> rfl
  exact Memref.read_access_unit_zero (Elt F) main_v0 hz' (fun a => by rw [congrFun hz' a]; simp) ps
theorem before2_1 (t : Fin cfg2.N) (d) : (dat2 b ps s k A3 c).before 1 t d = s := by
  unfold Pipeline.Dat.before
  rw [if_pos (fetch2_1 t)]
  show (dat2 b ps s k A3 c).blockOf 1 t = _
  have hz' : (fun a => win2_1.index t a * main_v2_0.ty.shape.size a) = fun _ => 0 := funext fun a => by fin_cases a <;> rfl
  exact Memref.read_access_unit_zero (Elt F) main_v2_0 hz' (fun a => by rw [congrFun hz' a]; simp) s
theorem before2_2 (t : Fin cfg2.N) (d) : (dat2 b ps s k A3 c).before 2 t d = k := by
  unfold Pipeline.Dat.before
  rw [if_pos (fetch2_2 t)]
  show (dat2 b ps s k A3 c).blockOf 2 t = _
  have hz' : (fun a => win2_2.index t a * main_v2_1.ty.shape.size a) = fun _ => 0 := funext fun a => by fin_cases a <;> rfl
  exact Memref.read_access_unit_zero (Elt F) main_v2_1 hz' (fun a => by rw [congrFun hz' a]; simp) k

theorem phi2_eq (t) : (dat2 b ps s k A3 c).Φ t = Pipeline.scopedRest spec2 c := rfl
theorem owes2_succ (t : Fin cfg2.N) : ((dat2 b ps s k A3 c).owesAt (none : HIx 1) t.succ : sProp 𝕄) = (dat2 b ps s k A3 c).owesAt (none : HIx 1) t.castSucc := rfl

theorem body2_eq (t : Fin cfg2.N) : (defs₀ (F := F) .tc cfg2.body (cfg2.bodyArgs t (cfg2.slots t)))
    = cc2__combine_body (st2_0 t) (hstage2_0 0) (st2_1 t) (hstage2_1 0) (st2_2 t) (hstage2_2 0) (st2_3 t) (hstage2_3 0) := rfl

/-- The combining call's one point keeps the invariant. -/
theorem obl2 : Pipeline.BodyObligation (dat2 b ps s k A3 c) (defs₀ (F := F)) 𝒱₀ (none : HIx 1) Set.univ := fun t => by
  rw [bigSep_W2, bigSep_W2, phi2_eq, phi2_eq, owes2_succ]
  have eB := body2_eq (F := F) t
  generalize (defs₀ (F := F) .tc cfg2.body (cfg2.bodyArgs t (cfg2.slots t))) = pB at eB ⊢
  generalize (dat2 b ps s k A3 c).owesAt (none : HIx 1) t.castSucc = OW
  generalize (Pipeline.scopedRest spec2 c : sProp 𝕄) = SR
  iintro ⟨HR, HO, ⟨%d0, H0⟩, ⟨%d1, H1⟩, ⟨%d2, H2⟩, ⟨%d3, H3⟩⟩
  subst eB; iapply (wp_wand_r frame _ _)
  isplitl [H0 H1 H2 H3]
  · iapply (body2 c (st2_1 t) _ (st2_2 t) _ (st2_3 t) _ s k _ (st2_0 t) _ ps)
    isplitl [H0]; · rw [before2_0]; iexact H0
    isplitl [H1]; · rw [before2_1]; iexact H1
    isplitl [H2]; · rw [before2_2]; iexact H2
    iexact H3
  · iintro %_ ⟨H0, H1, H2, H3⟩
    isplitl [HR]; · iexact HR
    isplitl [HO]; · iexact HO
    isplitl [H0]; · iexact H0
    isplitl [H1]; · iexact H1
    isplitl [H2]; · iexact H2
    iexact H3

/-- The one point's block of the result is the whole array. -/
theorem final2_3 : (dat2 b ps s k A3 c).arrAt 3 cfg2.N = k2_pay1 ps s k :=
  (dat2 b ps s k A3 c).arrAt_eq_of_cover 3 (k2_pay1 ps s k)
    (fun t hf => by
      show (cfg2.win 3).cut (grid2.coords t) (k2_pay1 ps s k) = _
      have hz' : (fun a => win2_3.index t a * main_v3.ty.shape.size a) = fun _ => 0 := funext fun a => by fin_cases a <;> rfl
      exact (Memref.read_access_unit_zero (Elt F) main_v3 hz' (fun a => by rw [congrFun hz' a]; simp) (k2_pay1 ps s k)).symm)
    fun i => ⟨t2_0, flush2_3 t2_0, by
      show i ∈ ((View.whole main_v3).slice (win2_3.rect t2_0)).set
      rw [View.set_slice_whole, Rect.mem_set_unit]
      intro a
      have h0 : (i 0 : Nat) < 16 := (i 0).isLt
      have h1 : (i 1 : Nat) < 128 := (i 1).isLt
      match a with
      | ⟨0, _⟩ => show 0 * 16 ≤ (i 0 : Nat) ∧ (i 0 : Nat) < 0 * 16 + 16; omega
      | ⟨1, _⟩ => show 0 * 128 ≤ (i 1 : Nat) ∧ (i 1 : Nat) < 0 * 128 + 128; omega⟩

end Two

end Cert.Proof.Seg
-- ==== Proof.Region.lean ====
/-
  The two TensorCore calls as statements of the whole program: what each is entered from and what it leaves.
-/
module

public import proofs.«01_k».proof.Proof.TcRegion

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.TcCoe

variable (m : (ℓ : Loc nD τ sig) → Buf (Elt F) ℓ) (b : ℕ)

/-- Neither pipeline prefetches a table. -/
abbrev adm : (p : Fin 2) → (pcfgs (F := F) p).Adm := fun p => (cfgs p).toPCfg_adm

/-- A device's first TensorCore output as the launch has it, and its second, and the result. -/
abbrev v20Loc (d : Dev nD) : Loc nD τ sig := (SparseCore.T d).loc main_v2_0
abbrev v21Loc (d : Dev nD) : Loc nD τ sig := (SparseCore.T d).loc main_v2_1
abbrev v1Loc (d : Dev nD) : Loc nD τ sig := (SparseCore.T d).loc main_v1
abbrev v3Loc (d : Dev nD) : Loc nD τ sig := (SparseCore.T d).loc main_v3

/-- The sums and the counts the accumulation leaves, and the result the combining call leaves. -/
def sumOut (d : Dev nD) : Buf (Elt F) (v20Loc d) := tcS (m (idsLoc d)) (m (flatLoc d)) 6
def cntOut (d : Dev nD) : Buf (Elt F) (v21Loc d) := tcC (F := F) (m (idsLoc d)) 6
def resOut (d : Dev nD) : Buf (Elt F) (v3Loc d) := k2_pay1 (psOut m d) (sumOut m d) (cntOut m d)

/-- The two pipelines' data on every core. -/
def pdats : (p : Fin 2) → (c : Dev nD) → Pipeline.Dat τ (Elt F) (HIx 1) ℕ UU ℕ (Pipeline.pin (pcfgs (F := F)) adm p) c
  | 0 => fun c => dat1 b (m (idsLoc c)) (m (flatLoc c)) (m (v20Loc c)) (m (v21Loc c)) c
  | 1 => fun c => dat2 b (psOut m c) (sumOut m c) (cntOut m c) (m (v3Loc c)) c

variable [∀ e, Nonempty (Elt F e)]

attribute [local irreducible] tcS tcC psOut k2_pay1 sumOut cntOut resOut

/-- The core owes nothing, and what it recorded lies at levels at most `b`. -/
def owesLow (c : Dev nD) : sProp 𝕄 := iprop(∃ W, ⌜(K (F := F)).WBelow (T c) W b⌝ ∗ owes (T c : Thread nD τ) 0 W)

/-- The accumulation's arrays: the blocks of numbers, the rows, the two outputs. -/
def arrs1 (c : Dev nD) (fs : Buf (Elt F) (v20Loc c)) (fc : Buf (Elt F) (v21Loc c)) : sProp 𝕄 :=
  iprop((v1Loc c ↦{fullShare} (v1V (m (idsLoc c)) : Buf (Elt F) (v1Loc c))) ∗ (flatLoc c ↦{fullShare} m (flatLoc c))
    ∗ (v20Loc c ↦{fullShare} fs) ∗ (v21Loc c ↦{fullShare} fc))
/-- The combining call's arrays: the partial sums, the sums, the counts, the result. -/
def arrs2 (c : Dev nD) (fr : Buf (Elt F) (v3Loc c)) : sProp 𝕄 :=
  iprop((psLoc c ↦{fullShare} psOut m c) ∗ (v20Loc c ↦{fullShare} sumOut m c) ∗ (v21Loc c ↦{fullShare} cntOut m c) ∗ (v3Loc c ↦{fullShare} fr))

theorem arrays1_eq (c : Dev nD) (Fa) : ((pdats m b 0 c).arrays Fa : sProp 𝕄)
    = iprop((v1Loc c ↦{fullShare} Fa 0) ∗ (flatLoc c ↦{fullShare} Fa 1) ∗ (v20Loc c ↦{fullShare} Fa 2) ∗ (v21Loc c ↦{fullShare} Fa 3)) := by
  rw [Pipeline.arrays_eq (Pipeline.pin (pcfgs (F := F)) adm) (pdats m b) 0 c launch1.arr_whole ((pdats m b 0 c).share_full fun _ => rfl) Fa, bigSep_W1]; rfl

theorem arrays2_eq (c : Dev nD) (Fa) : ((pdats m b 1 c).arrays Fa : sProp 𝕄)
    = iprop((psLoc c ↦{fullShare} Fa 0) ∗ (v20Loc c ↦{fullShare} Fa 1) ∗ (v21Loc c ↦{fullShare} Fa 2) ∗ (v3Loc c ↦{fullShare} Fa 3)) := by
  rw [Pipeline.arrays_eq (Pipeline.pin (pcfgs (F := F)) adm) (pdats m b) 1 c launch2.arr_whole ((pdats m b 1 c).share_full fun _ => rfl) Fa, bigSep_W2]; rfl

theorem entry1 (c : Dev nD) : ((pdats m b 0 c).arrays (fun w => (pdats m b 0 c).arrAt w 0) : sProp 𝕄) = arrs1 m c (m (v20Loc c)) (m (v21Loc c)) := arrays1_eq m b c _
theorem entry2 (c : Dev nD) : ((pdats m b 1 c).arrays (fun w => (pdats m b 1 c).arrAt w 0) : sProp 𝕄) = arrs2 m c (m (v3Loc c)) := arrays2_eq m b c _

theorem exit1 (c : Dev nD) : ((pdats m b 0 c).arrays (fun w => (pdats m b 0 c).arrAt w (Pipeline.pin (pcfgs (F := F)) adm 0).N) : sProp 𝕄)
    = arrs1 m c (sumOut m c) (cntOut m c) := by
  rw [arrays1_eq]
  have h0 : (pdats m b 0 c).arrAt 0 (Pipeline.pin (pcfgs (F := F)) adm 0).N = (v1V (m (idsLoc c)) : S16x1x2048.Idx → BitVec 32) :=
    (dat1 b (m (idsLoc c)) (m (flatLoc c)) (m (v20Loc c)) (m (v21Loc c)) c).arrAt_in 0 rfl _
  have h1 : (pdats m b 0 c).arrAt 1 (Pipeline.pin (pcfgs (F := F)) adm 0).N = m (flatLoc c) :=
    (dat1 b (m (idsLoc c)) (m (flatLoc c)) (m (v20Loc c)) (m (v21Loc c)) c).arrAt_in 1 rfl _
  have h2 : (pdats m b 0 c).arrAt 2 (Pipeline.pin (pcfgs (F := F)) adm 0).N = sumOut m c := by unfold sumOut; exact final1_2 b _ _ _ _ c
  have h3 : (pdats m b 0 c).arrAt 3 (Pipeline.pin (pcfgs (F := F)) adm 0).N = cntOut m c := by unfold cntOut; exact final1_3 b _ _ _ _ c
  rw [h0, h1, h2, h3]; rfl

theorem exit2 (c : Dev nD) : ((pdats m b 1 c).arrays (fun w => (pdats m b 1 c).arrAt w (Pipeline.pin (pcfgs (F := F)) adm 1).N) : sProp 𝕄)
    = arrs2 m c (resOut m c) := by
  rw [arrays2_eq]
  have h0 : (pdats m b 1 c).arrAt 0 (Pipeline.pin (pcfgs (F := F)) adm 1).N = psOut m c :=
    (dat2 b (psOut m c) (sumOut m c) (cntOut m c) (m (v3Loc c)) c).arrAt_in 0 rfl _
  have h1 : (pdats m b 1 c).arrAt 1 (Pipeline.pin (pcfgs (F := F)) adm 1).N = sumOut m c :=
    (dat2 b (psOut m c) (sumOut m c) (cntOut m c) (m (v3Loc c)) c).arrAt_in 1 rfl _
  have h2 : (pdats m b 1 c).arrAt 2 (Pipeline.pin (pcfgs (F := F)) adm 1).N = cntOut m c :=
    (dat2 b (psOut m c) (sumOut m c) (cntOut m c) (m (v3Loc c)) c).arrAt_in 2 rfl _
  have h3 : (pdats m b 1 c).arrAt 3 (Pipeline.pin (pcfgs (F := F)) adm 1).N = resOut m c := by unfold resOut; exact final2_3 b _ _ _ _ c
  rw [h0, h1, h2, h3]; rfl

/-- What the core owes as a region takes it, at either pipeline and at any point. -/
theorem owes_in (p : Fin 2) (c : Dev nD) (t) : owesLow (F := F) b c ⊢ ((pdats m b p c).owesAt (none : HIx 1) t : sProp 𝕄) := by
  match p with
  | 0 =>
    unfold owesLow Pipeline.Dat.owesAt Pipeline.owesWithin
    iintro ⟨%W, %hW, HO⟩; iexists W; isplitr
    · ipureintro; exact fun p hp => Or.inl (hW p hp)
    · iexact HO
  | 1 =>
    unfold owesLow Pipeline.Dat.owesAt Pipeline.owesWithin
    iintro ⟨%W, %hW, HO⟩; iexists W; isplitr
    · ipureintro; exact fun p hp => Or.inl (hW p hp)
    · iexact HO

/-- And as a region gives it back: its own waits are recorded at level 0. -/
theorem owes_out (p : Fin 2) (c : Dev nD) (t) : ((pdats m b p c).owesAt (none : HIx 1) t : sProp 𝕄) ⊢ owesLow (F := F) b c := by
  match p with
  | 0 =>
    unfold owesLow Pipeline.Dat.owesAt Pipeline.owesWithin
    iintro ⟨%W, %hW, HO⟩; iexists W; isplitr
    · ipureintro
      intro p hp
      rcases hW hp with h | ⟨w, s, h⟩
      · exact h
      · rw [h]; exact Nat.zero_le _
    · iexact HO
  | 1 =>
    unfold owesLow Pipeline.Dat.owesAt Pipeline.owesWithin
    iintro ⟨%W, %hW, HO⟩; iexists W; isplitr
    · ipureintro
      intro p hp
      rcases hW hp with h | ⟨w, s, h⟩
      · exact h
      · rw [h]; exact Nat.zero_le _
    · iexact HO

theorem scr_zero (fi : S32768.Idx → BitVec 32) (ff : S32768x128.Idx → F .f32) (c : Dev nD) : (Pipeline.scopedRest spec1 c : sProp 𝕄) ⊢ iprop(scr fi ff c 0 ∗ rest1 c) := by
  rw [scopedRest1_eq]
  unfold scr rest1
  iintro ⟨⟨%f0, H0⟩, ⟨%f1, H1⟩, Hr⟩
  isplitl [H0 H1]
  · isplitl [H0]
    · iexists f0; rw [owns_whole]; iexact H0
    · iexists f1; rw [owns_whole]; iexact H1
  · iexact Hr

theorem scr_last (fi : S32768.Idx → BitVec 32) (ff : S32768x128.Idx → F .f32) (c : Dev nD) (n : ℕ) : iprop(scr fi ff c (n + 1) ∗ rest1 c) ⊢ (Pipeline.scopedRest spec1 c : sProp 𝕄) := by
  rw [scopedRest1_eq]
  show iprop((owns (T c : Thread nD τ) sc0 fullShare (tcS fi ff n) ∗ owns (T c : Thread nD τ) sc1 fullShare (tcC (F := F) fi n)) ∗ rest1 c) ⊢ _
  unfold rest1
  rw [owns_whole, owns_whole]
  iintro ⟨⟨H0, H1⟩, Hr⟩
  isplitl [H0]; · iexists _; iexact H0
  isplitl [H1]; · iexists _; iexact H1
  iexact Hr

theorem phi1_first (c : Dev nD) : (pdats m b 0 c).Φ 0 = iprop(scr (m (idsLoc c)) (m (flatLoc c)) c 0 ∗ rest1 c) := rfl
theorem phi1_last (c : Dev nD) : (pdats m b 0 c).Φ (Fin.last (Pipeline.pin (pcfgs (F := F)) adm 0).N) = iprop(scr (m (idsLoc c)) (m (flatLoc c)) c (6 + 1) ∗ rest1 c) := by
  show iprop(scr (m (idsLoc c)) (m (flatLoc c)) c grid1.N ∗ rest1 c) = _
  rw [show grid1.N = 6 + 1 from N_1]
theorem phi2_const (c : Dev nD) (t) : (pdats m b 1 c).Φ t = (Pipeline.scopedRest spec2 c : sProp 𝕄) := rfl

/-- The accumulation's region. -/
def reg1 : Pipeline.RegionSeg (pcfgs (F := F)) adm (pdats m b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obl1 b (m (idsLoc c)) (m (flatLoc c)) (m (v20Loc c)) (m (v21Loc c)) c).loose
  hwaits := Pipeline.hwaits_of_owed_zero _ _ _ _ (K (F := F)).L (K (F := F)).lev 0 fun _ _ => rfl
  pre c := iprop(arrs1 m c (m (v20Loc c)) (m (v21Loc c)) ∗ owesLow (F := F) b c)
  post c := iprop(arrs1 m c (sumOut m c) (cntOut m c) ∗ owesLow (F := F) b c)
  X _ := iprop(emp)
  Y _ := iprop(emp)
  Z _ := iprop(emp)
  hentry c := by
    rw [Pipeline.ownSems0_none]
    iintro ⟨⟨Ha, HO⟩, -, -⟩
    imodintro
    isplitl [Ha]; · iapply (Entails.of_eq (entry1 m b c).symm) $$ Ha
    isplitr; · unfold Pipeline.prefHeld; rw [show (Finset.univ : Finset (Fin 0)) = ∅ from rfl, BI.bigSep_empty]; iempintro
    isplitl [HO]; · iapply (owes_in m b 0 c 0) $$ HO
    isplitr <;> iempintro
  hin c := by
    rw [phi1_first]
    iintro ⟨-, -, H⟩
    iapply (scr_zero (m (idsLoc c)) (m (flatLoc c)) c) $$ H
  hout c := by
    rw [Pipeline.ownSems0_none, phi1_last]
    iintro H
    isplitr; · iempintro
    isplitr; · iempintro
    iapply (scr_last (m (idsLoc c)) (m (flatLoc c)) c 6) $$ H
  hexit c := by
    iintro ⟨Ha, HO, -, -⟩
    imodintro
    isplitl [Ha]
    · rw [← exit1 m b c]; iexact Ha
    · iapply (owes_out m b 0 c _) $$ HO

/-- The combining call's region. -/
def reg2 : Pipeline.RegionSeg (pcfgs (F := F)) adm (pdats m b) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obl2 b (psOut m c) (sumOut m c) (cntOut m c) (m (v3Loc c)) c).loose
  hwaits := Pipeline.hwaits_of_owed_zero _ _ _ _ (K (F := F)).L (K (F := F)).lev 1 fun _ _ => rfl
  pre c := iprop(arrs2 m c (m (v3Loc c)) ∗ owesLow (F := F) b c)
  post c := iprop(arrs2 m c (resOut m c) ∗ owesLow (F := F) b c)
  X _ := iprop(emp)
  Y _ := iprop(emp)
  Z _ := iprop(emp)
  hentry c := by
    rw [Pipeline.ownSems0_none]
    iintro ⟨⟨Ha, HO⟩, -, -⟩
    imodintro
    isplitl [Ha]; · iapply (Entails.of_eq (entry2 m b c).symm) $$ Ha
    isplitr; · unfold Pipeline.prefHeld; rw [show (Finset.univ : Finset (Fin 0)) = ∅ from rfl, BI.bigSep_empty]; iempintro
    isplitl [HO]; · iapply (owes_in m b 1 c 0) $$ HO
    isplitr <;> iempintro
  hin c := by
    rw [phi2_const]
    iintro ⟨-, -, H⟩
    iexact H
  hout c := by
    rw [Pipeline.ownSems0_none, phi2_const]
    iintro H
    isplitr; · iempintro
    isplitr; · iempintro
    iexact H
  hexit c := by
    iintro ⟨Ha, HO, -, -⟩
    imodintro
    isplitl [Ha]
    · rw [← exit2 m b c]; iexact Ha
    · iapply (owes_out m b 1 c _) $$ HO

/-- The ghost state of pipeline `p` on core `c`. -/
def pipeG (p : Fin 2) (c : Dev nD) : sProp 𝕄 :=
  iprop(Pipeline.cellsGhost (Pipeline.pin (pcfgs (F := F)) adm) EP p c ∗ Pipeline.toksInit (Pipeline.pin (pcfgs (F := F)) adm) EP p c)

/-- The two calls among the pipelines' own programs. -/
abbrev prog1 : Prog (TpuEff nD τ sig (Elt F) (ΛP (F := F)) .tc) PUnit := .op (.customCall (Pipeline.entry 0) ()) .ret
abbrev prog2 : Prog (TpuEff nD τ sig (Elt F) (ΛP (F := F)) .tc) PUnit := .op (.customCall (Pipeline.entry 1) ()) .ret

theorem prog1_lift : (Prog.lift (.customCall (SparseCore.inner (Pipeline.entry 0)) ()) : Prog (TpuEff nD τ sig (Elt F) (SparseCore.Sig (ΛP (F := F)) 1) .tc) PUnit)
    = SparseCore.liftProg (prog1 (F := F)) := rfl
theorem prog2_lift : (Prog.lift (.customCall (SparseCore.inner (Pipeline.entry 1)) ()) : Prog (TpuEff nD τ sig (Elt F) (SparseCore.Sig (ΛP (F := F)) 1) .tc) PUnit)
    = SparseCore.liftProg (prog2 (F := F)) := rfl

theorem reg1_pre (c : Dev nD) : (reg1 m b).pre c = iprop(arrs1 m c (m (v20Loc c)) (m (v21Loc c)) ∗ owesLow (F := F) b c) := rfl
theorem reg1_post (c : Dev nD) : (reg1 m b).post c = iprop(arrs1 m c (sumOut m c) (cntOut m c) ∗ owesLow (F := F) b c) := rfl

/-- The accumulation, among the two pipelines' own programs. -/
theorem wp_inner1 (c : Dev nD) (Φ : PUnit → sProp 𝕄) :
    iprop(((boundary (T c : Thread nD τ) ∗ (reg1 m b).post c) -∗ Φ ⟨⟩)
        ∗ boundary (T c : Thread nD τ) ∗ (reg1 m b).pre c ∗ levAts (K (F := F)).L (K (F := F)).lev ∗ pipeG 0 c)
      ⊢ wp frame (wpE (D (F := F)) 𝒱 (T c) none) Set.univ (prog1 (F := F)) Φ := by
  refine .trans ?_ (Pipeline.RegionSeg.wp (pcfgs (F := F)) adm (pdats m b) (none : HIx 1) cellOf_inj EP defs₀ 𝒱₀ (K (F := F)).L (K (F := F)).lev (reg1 m b) c none (fun _ h => nomatch h) .ret Φ)
  iintro ⟨Hk, Hb, Ha, Hl, Hg⟩
  isplitl [Hk]
  · iintro H
    rw [wp_ret]; imodintro
    iapply Hk $$ H
  isplitl [Hb]; · iexact Hb
  isplitl [Ha]; · iexact Ha
  isplitl [Hl]; · iexact Hl
  unfold pipeG; iexact Hg

/-- The accumulation as a statement of the program. -/
theorem wp_region1 (c : Dev nD) (Φ : PUnit → sProp 𝕄) :
    iprop((boundary (T c : Thread nD τ) ∗ arrs1 m c (m (v20Loc c)) (m (v21Loc c)) ∗ owesLow (F := F) b c ∗ levAts (K (F := F)).L (K (F := F)).lev ∗ pipeG 0 c)
        ∗ ((boundary (T c : Thread nD τ) ∗ arrs1 m c (sumOut m c) (cntOut m c) ∗ owesLow (F := F) b c) -∗ Φ ⟨⟩))
      ⊢ wp frame (wpE ((K (F := F)).defs (D (F := F))) 𝒱 (T c) none) Set.univ
          (Prog.lift (.customCall (SparseCore.inner (Pipeline.entry 0)) ()) : Prog (TpuEff nD τ sig (Elt F) (SparseCore.Sig (ΛP (F := F)) 1) .tc) PUnit) Φ := by
  rw [prog1_lift]
  refine .trans ?_ ((K (F := F)).wp_liftProg (D (F := F)) 𝒱 (T c) Set.univ none (prog1 (F := F)) Φ)
  refine .trans ?_ (wp_inner1 m b c Φ)
  rw [reg1_pre, reg1_post]
  iintro ⟨⟨Hb, Ha, HO, Hl, Hg⟩, Hk⟩
  isplitl [Hk]; · iexact Hk
  isplitl [Hb]; · iexact Hb
  isplitl [Ha HO]
  · isplitl [Ha]; · iexact Ha
    iexact HO
  isplitl [Hl]; · iexact Hl
  iexact Hg

theorem reg2_pre (c : Dev nD) : (reg2 m b).pre c = iprop(arrs2 m c (m (v3Loc c)) ∗ owesLow (F := F) b c) := rfl
theorem reg2_post (c : Dev nD) : (reg2 m b).post c = iprop(arrs2 m c (resOut m c) ∗ owesLow (F := F) b c) := rfl

/-- The combining call, among the two pipelines' own programs. -/
theorem wp_inner2 (c : Dev nD) (Φ : PUnit → sProp 𝕄) :
    iprop(((boundary (T c : Thread nD τ) ∗ (reg2 m b).post c) -∗ Φ ⟨⟩)
        ∗ boundary (T c : Thread nD τ) ∗ (reg2 m b).pre c ∗ levAts (K (F := F)).L (K (F := F)).lev ∗ pipeG 1 c)
      ⊢ wp frame (wpE (D (F := F)) 𝒱 (T c) none) Set.univ (prog2 (F := F)) Φ := by
  refine .trans ?_ (Pipeline.RegionSeg.wp (pcfgs (F := F)) adm (pdats m b) (none : HIx 1) cellOf_inj EP defs₀ 𝒱₀ (K (F := F)).L (K (F := F)).lev (reg2 m b) c none (fun _ h => nomatch h) .ret Φ)
  iintro ⟨Hk, Hb, Ha, Hl, Hg⟩
  isplitl [Hk]
  · iintro H
    rw [wp_ret]; imodintro
    iapply Hk $$ H
  isplitl [Hb]; · iexact Hb
  isplitl [Ha]; · iexact Ha
  isplitl [Hl]; · iexact Hl
  unfold pipeG; iexact Hg

/-- The combining call as a statement of the program. -/
theorem wp_region2 (c : Dev nD) (Φ : PUnit → sProp 𝕄) :
    iprop((boundary (T c : Thread nD τ) ∗ arrs2 m c (m (v3Loc c)) ∗ owesLow (F := F) b c ∗ levAts (K (F := F)).L (K (F := F)).lev ∗ pipeG 1 c)
        ∗ ((boundary (T c : Thread nD τ) ∗ arrs2 m c (resOut m c) ∗ owesLow (F := F) b c) -∗ Φ ⟨⟩))
      ⊢ wp frame (wpE ((K (F := F)).defs (D (F := F))) 𝒱 (T c) none) Set.univ
          (Prog.lift (.customCall (SparseCore.inner (Pipeline.entry 1)) ()) : Prog (TpuEff nD τ sig (Elt F) (SparseCore.Sig (ΛP (F := F)) 1) .tc) PUnit) Φ := by
  rw [prog2_lift]
  refine .trans ?_ ((K (F := F)).wp_liftProg (D (F := F)) 𝒱 (T c) Set.univ none (prog2 (F := F)) Φ)
  refine .trans ?_ (wp_inner2 m b c Φ)
  rw [reg2_pre, reg2_post]
  iintro ⟨⟨Hb, Ha, HO, Hl, Hg⟩, Hk⟩
  isplitl [Hk]; · iexact Hk
  isplitl [Hb]; · iexact Hb
  isplitl [Ha HO]
  · isplitl [Ha]; · iexact Ha
    iexact HO
  isplitl [Hl]; · iexact Hl
  iexact Hg

end Cert.Proof.Seg
-- ==== Proof.Run.lean ====
/-
  The whole program's run: the SparseCore call, the relayout of the segment numbers and the two TensorCore calls, with
  the value they leave in the result.
-/
module

public import proofs.«01_k».proof.Proof.Region

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

open Idealize.ShloMosaic.TcCoe

variable (m : (ℓ : Loc nD τ sig) → Buf (Elt F) ℓ) (ρ : Dev nD → PrngReg)

/-! ## The launch element -/

/-- The pipelines' cells. -/
abbrev pipeCells : Finset (GSem nD τ sig) := Pipeline.cells (Pipeline.pin (pcfgs (F := F)) adm) cellOf_inj
/-- The launch element: the handshakes' rounds and the pipelines' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What device `d`'s TensorCore is dealt of the kernel's own: the ghost state of its two pipelines. -/
def G (d : Dev nD) : sProp 𝕄 := iprop(pipeG 0 d ∗ pipeG 1 d)

theorem bigSep_emp' {I : Type} (s : Finset I) : (bigSep s fun _ => iprop(emp)) = (iprop(emp) : sProp 𝕄) := bigSep_emp_const s

theorem G_eq : (bigSep Finset.univ fun d : Dev nD => (G d : sProp 𝕄))
    = iprop((bigSep Finset.univ fun c : Dev nD => bigSep Finset.univ fun p => Pipeline.cellsGhost (Pipeline.pin (pcfgs (F := F)) adm) EP p c)
      ∗ bigSep Finset.univ fun c : Dev nD => bigSep Finset.univ fun p => Pipeline.toksInit (Pipeline.pin (pcfgs (F := F)) adm) EP p c) := by
  rw [← bigSep_sep']
  refine bigSep_congr fun d _ => ?_
  rw [← bigSep_sep', show (Finset.univ : Finset (Fin 2)) = {0, 1} by decide, SparseCore.bigSep_insert' (by decide), bigSep_singleton]
  rfl

theorem EP_own (a : UP) : (BI.own (((Emb.inl : Emb UP (UP × Counters)).trans embR) a) : sProp 𝕄) = BI.own (EP a) := by unfold EP; rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, Hr⟩
  ihave H2 := (own_pair_emb embR _ _) $$ Hr
  icases H2 with ⟨Hp, -⟩
  ihave Hp' := (Entails.of_eq (EP_own (F := F) _)) $$ Hp
  imod (Pipeline.fund_ghost (Pipeline.pin (pcfgs (F := F)) adm) EP cellOf_inj) $$ Hp' with ⟨Hc, Ht⟩
  imodintro
  isplitl [HH]; · iexact HH
  isplitl [Hc Ht]
  · rw [G_eq]
    isplitl [Hc] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscoped_eq (d : Dev nD) (W : (b : Ref sig .tc) → Buf (Elt F) ((d.tc : Thread nD τ).loc b)) :
    (unscopedBufs d W : sProp 𝕄) = iprop((flatLoc d ↦{fullShare} W main_arg0) ∗ (idsLoc d ↦{fullShare} W main_arg1) ∗ (psLoc d ↦{fullShare} W main_v0)
      ∗ (v1Loc d ↦{fullShare} W main_v1) ∗ (v20Loc d ↦{fullShare} W main_v2_0) ∗ (v21Loc d ↦{fullShare} W main_v2_1) ∗ (v3Loc d ↦{fullShare} W main_v3)) := by
  unfold unscopedBufs
  rw [show (Finset.univ.filter fun b : Ref sig .tc => ¬ b.isScoped) = {main_arg0, main_arg1, main_v0, main_v1, main_v2_0, main_v2_1, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev ids' : DevRef τ sig := Proc.devRef .tc (main_arg1 : Ref sig .tc)
abbrev v1' : DevRef τ sig := Proc.devRef .tc (main_v1 : Ref sig .tc)
/-- The relayout of the segment numbers into blocks of 2048. -/
abbrev opR : HloOp τ sig (Elt F) := StableHlo.reshape main_arg1 main_v1 (rfl : (.i32 : EltTy) = .i32) shapeCasts_S32768_S16x1x2048

/-- The launch contents. -/
def V0 (d : Dev nD) : Valuation τ sig (Elt F) := fun b => m (d, b)

abbrev S2 : Finset (DevRef τ sig) := {ids', v1'}

theorem held_S2 (d : Dev nD) (W : Valuation τ sig (Elt F)) :
    (held (T d) S2 W : sProp 𝕄) = iprop((idsLoc d ↦{fullShare} W ids') ∗ (v1Loc d ↦{fullShare} W v1')) := by
  unfold held S2
  rw [SparseCore.bigSep_insert' (by decide), bigSep_singleton]

/-- The relayout at an index is the segment number at the row the index names. -/
theorem relayout (fi : S32768.Idx → BitVec 32) : shapeCast S16x1x2048 fi shapeCasts_S32768_S16x1x2048 = v1V fi := by
  funext x
  have h0 : (x 0).val < 16 := (x 0).isLt
  have h1 : (x 1).val < 1 := (x 1).isLt
  have h2 : (x 2).val < 2048 := (x 2).isLt
  have hk : 2048 * (x 0).val + (x 2).val < 32768 := by omega
  rw [shapeCast_apply fi shapeCasts_S32768_S16x1x2048 x (fun | 0 => ⟨2048 * (x 0).val + (x 2).val, hk⟩)
    (by rw [Shape.rowMajor_val_three, Shape.rowMajor_val_one]; show 2048 * (x 0).val + (x 2).val = ((x 0).val * 1 + (x 1).val) * 2048 + (x 2).val; omega)]
  unfold v1V idsN
  rw [dif_pos hk]
  rfl

theorem held_R (d : Dev nD) :
    (held (T d) S2 ((opR (F := F)).result (V0 m d)) : sProp 𝕄)
      = iprop((idsLoc d ↦{fullShare} m (idsLoc d)) ∗ (v1Loc d ↦{fullShare} (v1V (m (idsLoc d)) : Buf (Elt F) (v1Loc d)))) := by
  rw [held_S2, (opR (F := F)).result_of_not_mem (V0 m d) (b := ids') (show ids' ∉ ({v1'} : Finset (DevRef τ sig)) by decide)]
  rw [show (opR (F := F)).result (V0 m d) v1' = (v1V (m (idsLoc d)) : Buf (Elt F) (v1Loc d)) from
    (StableHlo.reshape_result main_arg1 main_v1 _ _ _ _ (V0 m d)).trans (relayout (m (idsLoc d)))]
  rfl

theorem hR : (opR (F := F)).bufs ⊆ S2 := show ({ids', v1'} : Finset (DevRef τ sig)) ⊆ S2 by decide

/-- What @main leaves the claim: the two arguments at their launch contents, the result at what the combining call computes. -/
def FIN (d : Dev nD) : sProp 𝕄 := iprop((flatLoc d ↦{fullShare} m (flatLoc d)) ∗ (idsLoc d ↦{fullShare} m (idsLoc d)) ∗ (v3Loc d ↦{fullShare} resOut m d))

/-- The TensorCore's state after the call splits into what it owes and the rest. -/
theorem tcSt_split (d : Dev nD) : ∃ R : sProp 𝕄, ((K (F := F)).tcSt EH d 1 : sProp 𝕄) = iprop(owesLow (F := F) 8 d ∗ R) := by
  refine ⟨iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1))), ?_⟩
  unfold SparseCore.Cfg.tcSt owesLow
  rw [(K (F := F)).Otc_end d (le_refl 1)]
  rfl

variable [∀ e, Nonempty (Elt F e)]

/-- @main on device `d`'s TensorCore: the SparseCore call, the relayout, the two TensorCore calls. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR1⟩ := tcSt_split (F := F) d
  unfold SparseCore.Cfg.tcRes SparseCore.Cfg.tcEnd G FIN
  rw [unscoped_eq]
  simp only [main, wp_bind, wp_pure]
  iintro ⟨#Hctx, Hst, ⟨Hb, ⟨Hf, Hi, Hp, H1, H20, H21, H3⟩, Hts, -⟩, HG1, HG2⟩
  ihave #Hlev := (SparseCore.Cfg.ctx_levAts κ) $$ Hctx
  iapply ((K (F := F)).wp_run (D (F := F)) 𝒱 (EH := EH) (P := P m) κ d 0) $$ [Hst Hf Hi Hp Hb H1 H20 H21 H3 Hts HG1 HG2]
  isplitr; · iexact Hctx
  isplitl [Hst]; · iexact Hst
  isplitl [Hf Hi Hp]
  · rw [st0_eq]
    isplitl [Hf]; · iexact Hf
    isplitl [Hi]; · iexact Hi
    iexact Hp
  iintro ⟨Hst, Hdn⟩
  ihave Hdn' := (Entails.of_eq (dn0_eq m d)) $$ Hdn
  icases Hdn' with ⟨Hf, Hi, Hp⟩
  ihave Hst' := (Entails.of_eq (show (K (F := F)).tcSt EH d ((0 : Fin 1).val + 1) = _ from hR1)) $$ Hst
  icases Hst' with ⟨HO, HR⟩
  iapply (wp_hlo_within 𝒱 (SparseCore.T d) none Set.univ (op := opR) (S := S2) hR (V := V0 m d)) $$ [Hb Hi H1]
  · isplitl [Hb]; · iexact Hb
    rw [held_S2]
    isplitl [Hi]; · iexact Hi
    iexact H1
  iintro ⟨Hb, Hheld⟩
  ihave Hh := (Entails.of_eq (held_R (F := F) m d)) $$ Hheld
  icases Hh with ⟨Hi, H1⟩
  rw [wp_ret]; imodintro
  iapply (wp_region1 m 8 d _)
  isplitl [Hb Hf H1 H20 H21 HO HG1]
  · isplitl [Hb]; · iexact Hb
    isplitl [Hf H1 H20 H21]
    · unfold arrs1
      isplitl [H1]; · iexact H1
      isplitl [Hf]; · iexact Hf
      isplitl [H20]; · iexact H20
      iexact H21
    isplitl [HO]; · iexact HO
    isplitr; · iexact Hlev
    iexact HG1
  iintro ⟨Hb, Ha, HO⟩
  ihave Ha' := (Entails.of_eq (show arrs1 m d (sumOut m d) (cntOut m d) = _ from by unfold arrs1; rfl)) $$ Ha
  icases Ha' with ⟨H1, Hf, H20, H21⟩
  iapply (wp_region2 m 8 d _)
  isplitl [Hb Hp H20 H21 H3 HO HG2]
  · isplitl [Hb]; · iexact Hb
    isplitl [Hp H20 H21 H3]
    · unfold arrs2
      isplitl [Hp]; · iexact Hp
      isplitl [H20]; · iexact H20
      isplitl [H21]; · iexact H21
      iexact H3
    isplitl [HO]; · iexact HO
    isplitr; · iexact Hlev
    iexact HG2
  iintro ⟨Hb, Ha, HO⟩
  ihave Ha' := (Entails.of_eq (show arrs2 m d (resOut m d) = _ from by unfold arrs2; rfl)) $$ Ha
  icases Ha' with ⟨Hp, H20, H21, H3⟩
  imodintro
  isplitl [HO HR]
  · rw [hR1]
    isplitl [HO] <;> iassumption
  isplitl [Hf Hi H3]
  · isplitl [Hf]; · iexact Hf
    isplitl [Hi]; · iexact Hi
    iexact H3
  isplitl [Hb] <;> iassumption

/-! ## The program's run -/

def fq (d : Dev nD) (s' : Phys nD τ sig (Elt F)) : Prop :=
  s'.mem.mem (flatLoc d) = m (flatLoc d) ∧ s'.mem.mem (idsLoc d) = m (idsLoc d) ∧ s'.mem.mem (v3Loc d) = resOut m d

theorem hfin (d : Dev nD) (s' : Phys nD τ sig (Elt F)) : iprop(FIN m d ∗ SI s') ⊢ (⌜fq m d s'⌝ : sProp 𝕄) := by
  unfold FIN
  iintro ⟨⟨Hf, Hi, Hr⟩, HSI⟩
  ihave H := (persistent_entails_right (SI_pointsTo_agree (st := s') (ℓ := flatLoc d) (I := Finset.univ) (q := fullShare) (f := m (flatLoc d)))) $$ [HSI Hf]
  · isplitl [HSI] <;> iassumption
  icases H with ⟨%h1, HSI, -⟩
  ihave H := (persistent_entails_right (SI_pointsTo_agree (st := s') (ℓ := idsLoc d) (I := Finset.univ) (q := fullShare) (f := m (idsLoc d)))) $$ [HSI Hi]
  · isplitl [HSI] <;> iassumption
  icases H with ⟨%h2, HSI, -⟩
  ihave H := (SI_pointsTo_agree (st := s') (ℓ := v3Loc d) (I := Finset.univ) (q := fullShare) (f := resOut m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What a run of the program ends in: the arguments as they were, the result at what the combining call computes, every semaphore at zero. -/
def QC : PUnit × MemSt nD τ sig (Elt F) → Prop := fun r =>
  (∀ c : Dev nD, r.2.mem (flatLoc c) = m (flatLoc c) ∧ r.2.mem (idsLoc c) = m (idsLoc c) ∧ r.2.mem (v3Loc c) = resOut m c) ∧ r.2.sem = fun _ => 0

/-- Every run of the program ends so. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Seg
-- ==== Proof.Frames.lean ====
/-
  The frames: each program runs to its end, faults nowhere, leaves its arguments and ends with every semaphore at zero.
-/
module

public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- Every run of the kernel's text, over any floats, leaves its arguments as they were and every semaphore at zero. -/
theorem run_frame {F : FTy → Type} [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => (∀ c : Dev nD, r.2.mem (flatLoc c) = m (flatLoc c) ∧ r.2.mem (idsLoc c) = m (idsLoc c)) ∧ r.2.sem = fun _ => 0) :=
  (θ_run Cert.KernelIdeal.defs _ _).mono (fun _ h => ⟨fun c => ⟨(h.1 c).1, (h.1 c).2.1⟩, h.2⟩) (run_main m ρ)

/-- The kernel over the extended reals runs, leaves its arguments as they were and every semaphore at zero. -/
theorem frame_ideal : Cert.quiescent_KernelIdeal := fun m ρ _ => run_frame (F := Ideal) m ρ

/-- The two printed texts have the same bodies over the machine's floats: label by label, on each kind of processor. -/
theorem bodies_eq : @Cert.Kernel.defs₀ Bits _ _ = @Cert.KernelIdeal.defs₀ Bits _ _ := by
  funext pr l a
  obtain ⟨l, hl⟩ := l
  cases pr with
  | tc => interval_cases l <;> rfl
  | scScalar c => interval_cases l <;> rfl
  | scVector c s => interval_cases l <;> rfl

/-- So their body tables are equal. -/
theorem defs_eq : Cert.Kernel.defs (F := Bits) = Cert.KernelIdeal.defs (F := Bits) :=
  congrArg (fun d => Cert.KernelIdeal.sc.defs (Pipeline.defs Cert.KernelIdeal.pcfgs d)) bodies_eq

/-- And so are their threads. -/
theorem threads_eq : Cert.Kernel.threads (F := Bits) = Cert.KernelIdeal.threads (F := Bits) := rfl

/-- The kernel as printed is the same text over the machine's floats, and so runs as well. -/
theorem frame_kernel : Cert.quiescent_Kernel := fun m ρ _ => by
  rw [defs_eq, threads_eq]
  exact run_frame (F := Bits) m ρ

/-- The reference over the extended reals runs; it has no semaphore. -/
theorem frame_reference : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

end Cert.Proof.Seg
-- ==== Proof.SegMath.lean ====
/-
  Sums of a sorted run of segment numbers, over the extended reals: what a worker's binary search and its sums of rows
  come to.
-/
module

public import proofs.«01_k».proof.Proof.Val
public import Idealize.ShloMosaic.Lib.IdealHost

@[expose] public section

noncomputable section

namespace Cert.Proof.Seg

open Idealize.ShloMosaic Finset

/-- The first `N` segment numbers are below sixteen and in order. -/
structure Srt (N : ℕ) (g : ℕ → BitVec 32) : Prop where
  lt : ∀ k, k < N → (g k).toNat < 16
  mono : ∀ i j, i ≤ j → j < N → (g i).toNat ≤ (g j).toNat

/-- A window of a sorted run is sorted. -/
theorem Srt.window {N n : ℕ} {g : ℕ → BitVec 32} (h : Srt N g) (o : ℕ) (ho : o + n ≤ N) : Srt n fun k => g (o + k) :=
  ⟨fun k hk => h.lt _ (by omega), fun i j hij hj => h.mono _ _ (by omega) (by omega)⟩

/-- What belongs to segment `s` among the first `N` terms. -/
def segSum (N : ℕ) (g : ℕ → BitVec 32) (Y : ℕ → EReal) (s : ℕ) : EReal := ∑ k ∈ range N, if (g k).toNat = s then Y k else 0

theorem slt_small {a b : BitVec 32} (ha : a.toNat ≤ 576) (hb : b.toNat ≤ 576) : a.slt b = true ↔ a.toNat < b.toNat := by
  rw [BitVec.slt_iff_toInt_lt, toInt_small ha, toInt_small hb]; omega

/-- The search finds the boundary: a position is below boundary `s` when its segment number is below `s`. -/
theorem lt_bn {F : FTy → Type} [FloatOps F] {I : ℕ → BitVec 32} (h : Srt 576 I) {s k : ℕ} (hs : s ≤ 16) (hk : k < 576) :
    k < bn F I s ↔ (I k).toNat < s := by
  by_cases h16 : s < 16
  · unfold bn bnd
    rw [dif_pos h16]
    have hl : (lane (lix s h16)).toNat = s := by rw [lane_toNat]; rfl
    obtain ⟨-, hhi, hb, ha, -⟩ := srch_inv (F := F) I 10 (lix s h16)
    rw [← srch_done] at hhi ha
    generalize ((srch F I 10).1 (lix s h16)).toNat = b at *
    have hsm : ∀ j, j < 576 → (I j).toNat ≤ 576 := fun j hj => by have := h.lt j hj; omega
    constructor
    · intro hkb
      rcases hb with hb | hb
      · omega
      · rw [slt_small (hsm _ (by omega)) (by omega), hl] at hb
        exact lt_of_le_of_lt (h.mono k (b - 1) (by omega) (by omega)) hb
    · intro hks
      by_contra hcon
      rcases ha with ha | ha
      · omega
      · have hb5 : b < 576 := by omega
        rw [slt_small (hsm _ hb5) (by omega), hl] at ha
        have := h.mono b k (by omega) hk
        omega
  · have : s = 16 := by omega
    subst this
    unfold bn bnd
    rw [dif_neg (by omega)]
    have := h.lt k hk
    exact ⟨fun _ => this, fun _ => hk⟩

/-- A position belongs to segment `s` when it lies between the boundaries `s` and `s + 1`. -/
theorem mem_bn {F : FTy → Type} [FloatOps F] {I : ℕ → BitVec 32} (h : Srt 576 I) {s k : ℕ} (hs : s < 16) (hk : k < 576) :
    (I k).toNat = s ↔ bn F I s ≤ k ∧ k < bn F I (s + 1) := by
  have h1 := lt_bn (F := F) h (s := s) (by omega) hk
  have h2 := lt_bn (F := F) h (s := s + 1) (by omega) hk
  constructor
  · intro e; exact ⟨by by_contra hc; have := h1.1 (by omega); omega, h2.2 (by omega)⟩
  · rintro ⟨a, b⟩
    have := h2.1 b
    by_contra hc
    have := h1.2 (by omega)
    omega

/-- The terms of a range are those between its two ends. -/
theorem sum_between (Y : ℕ → EReal) (N a b : ℕ) :
    (∑ k ∈ range N, if a ≤ k ∧ k < b then Y k else 0) = ∑ i ∈ range (min b N - a), Y (a + i) := by
  rw [← Finset.sum_filter, ← Finset.sum_Ico_eq_sum_range]
  congr 1
  ext k
  simp only [Finset.mem_filter, Finset.mem_range, Finset.mem_Ico]
  omega

theorem zf_ideal : (zf : Ideal .f32) = 0 := Ideal.ofBits_zero_f32

/-- The sum of rows as a sum. -/
theorem rsum_eq (X : ℕ → ℕ → ℕ → Ideal .f32) (ch lo n c : ℕ) : rsum X ch lo n c = ∑ i ∈ range n, X ch (lo + i) c := by
  induction n with
  | zero => rw [Finset.sum_range_zero]; exact zf_ideal
  | succ n ih => rw [Finset.sum_range_succ, ← ih]; rfl

/-- A trip adds its rows to its own segment's row. -/
theorem updSeg_eq (X : ℕ → ℕ → ℕ → Ideal .f32) (ch lo hi s : ℕ) (A : ℕ → ℕ → Ideal .f32) (r c : ℕ) :
    updSeg X ch lo hi s A r c = if r = s then A r c + ∑ i ∈ range (hi - lo), X ch (lo + i) c else A r c := by
  unfold updSeg
  by_cases h : lo < hi
  · rw [if_pos h, addRow, rsum_eq]; rfl
  · rw [if_neg h, show hi - lo = 0 by omega, Finset.sum_range_zero, add_zero, ite_self]

/-- After the first `n` segments of the first chunk, -/
theorem acc0_eq (I : ℕ → BitVec 32) (X : ℕ → ℕ → ℕ → Ideal .f32) (n r c : ℕ) :
    acc0 I X n r c = if r < n then accCnt Ideal I r c + ∑ i ∈ range (hi0 Ideal I r - lo0 Ideal I r), X 0 (lo0 Ideal I r + i) c
      else accCnt Ideal I r c := by
  induction n with
  | zero => rw [if_neg (by omega)]; rfl
  | succ n ih =>
    show updSeg X 0 (lo0 Ideal I n) (hi0 Ideal I n) n (acc0 I X n) r c = _
    rw [updSeg_eq]
    by_cases h : r = n
    · subst h; rw [if_pos rfl, ih, if_neg (by omega), if_pos (by omega)]
    · rw [if_neg h, ih]
      exact if_congr (by omega) rfl rfl

/-- and of the second. -/
theorem acc1_eq (I : ℕ → BitVec 32) (X : ℕ → ℕ → ℕ → Ideal .f32) (n r c : ℕ) :
    acc1 I X n r c = if r < n then acc0 I X 16 r c + ∑ i ∈ range (hi1 Ideal I r - lo1 Ideal I r), X 1 (lo1 Ideal I r + i) c
      else acc0 I X 16 r c := by
  induction n with
  | zero => rw [if_neg (by omega)]; rfl
  | succ n ih =>
    show updSeg X 1 (lo1 Ideal I n) (hi1 Ideal I n) n (acc1 I X n) r c = _
    rw [updSeg_eq]
    by_cases h : r = n
    · subst h; rw [if_pos rfl, ih, if_neg (by omega), if_pos (by omega)]
    · rw [if_neg h, ih]
      exact if_congr (by omega) rfl rfl

attribute [local irreducible] acc0 acc1 srch bnd

/-- The first chunk's part of a segment's sum, -/
theorem chunk0_sum {I : ℕ → BitVec 32} (h : Srt 576 I) (Z Y : ℕ → EReal) {s : ℕ} (hs : s < 16) (h0 : ∀ k, k < 288 → Z k = Y k) :
    (∑ i ∈ range (hi0 Ideal I s - lo0 Ideal I s), Z (lo0 Ideal I s + i)) = ∑ k ∈ range 288, if (I k).toNat = s then Y k else 0 := by
  have e : ∀ k ∈ range 288, (if (I k).toNat = s then Y k else 0) = if bn Ideal I s ≤ k ∧ k < bn Ideal I (s + 1) then Z k else 0 := by
    intro k hk
    rw [Finset.mem_range] at hk
    rw [h0 k hk]
    exact if_congr (mem_bn h hs (by omega)) rfl rfl
  rw [Finset.sum_congr rfl e, sum_between]

/-- and the second's. -/
theorem chunk1_sum {I : ℕ → BitVec 32} (h : Srt 576 I) (Z Y : ℕ → EReal) {s : ℕ} (hs : s < 16) (h1 : ∀ k, k < 288 → Z k = Y (288 + k)) :
    (∑ i ∈ range (hi1 Ideal I s - lo1 Ideal I s), Z (lo1 Ideal I s + i))
      = ∑ k ∈ range 288, if (I (288 + k)).toNat = s then Y (288 + k) else 0 := by
  have hb : bn Ideal I (s + 1) ≤ 576 := bnd_le _ _
  have e : ∀ k ∈ range 288, (if (I (288 + k)).toNat = s then Y (288 + k) else 0)
      = if lo1 Ideal I s ≤ k ∧ k < hi1 Ideal I s then Z k else 0 := by
    intro k hk
    rw [Finset.mem_range] at hk
    rw [h1 k hk]
    refine if_congr ((mem_bn (F := Ideal) h hs (by omega)).trans ?_) rfl rfl
    show bn Ideal I s ≤ 288 + k ∧ 288 + k < bn Ideal I (s + 1) ↔ max (bn Ideal I s) 288 - 288 ≤ k ∧ k < bn Ideal I (s + 1) - 288
    omega
  rw [Finset.sum_congr rfl e, sum_between]
  rw [show min (hi1 Ideal I s) 288 = hi1 Ideal I s from Nat.min_eq_left (by show bn Ideal I (s + 1) - 288 ≤ 288; omega)]

theorem segSum_halves (I : ℕ → BitVec 32) (Y : ℕ → EReal) (s : ℕ) :
    segSum 576 I Y s = (∑ k ∈ range 288, if (I k).toNat = s then Y k else 0)
      + ∑ k ∈ range 288, if (I (288 + k)).toNat = s then Y (288 + k) else 0 :=
  Finset.sum_range_add (fun k => if (I k).toNat = s then Y k else 0) 288 288

/-- Row `s` of a worker's accumulator is the sum of its rows of segment `s`. -/
theorem acc1_row {I : ℕ → BitVec 32} (h : Srt 576 I) (X : ℕ → ℕ → ℕ → Ideal .f32) (Y : ℕ → EReal) {s c : ℕ} (hs : s < 16)
    (h0 : ∀ k, k < 288 → X 0 k c = Y k) (h1 : ∀ k, k < 288 → X 1 k c = Y (288 + k)) :
    acc1 I X 16 s c = segSum 576 I Y s := by
  have z : accCnt Ideal I s c = 0 := by
    unfold accCnt
    rw [if_neg (by omega), zf_ideal]
  rw [acc1_eq, if_pos hs, acc0_eq, if_pos hs, z, zero_add, segSum_halves]
  exact congrArg₂ (· + ·) (chunk0_sum h (fun k => X 0 k c) Y hs h0) (chunk1_sum h (fun k => X 1 k c) Y hs h1)

/-- A count of ones is the number of positions. -/
theorem sum_between_one (a b : ℕ) (hb : b ≤ 576) :
    (∑ k ∈ range 576, if a ≤ k ∧ k < b then (1 : EReal) else 0) = ((b - a : ℕ) : EReal) := by
  rw [sum_between (fun _ => 1) 576 a b, Finset.sum_const, Finset.card_range, Nat.min_eq_left hb]
  simp

/-- The last row of a worker's accumulator holds the numbers of its rows by segment. -/
theorem acc1_cnt {I : ℕ → BitVec 32} (h : Srt 576 I) (X : ℕ → ℕ → ℕ → Ideal .f32) {s : ℕ} (hs : s < 16) :
    acc1 I X 16 16 s = segSum 576 I (fun _ => 1) s := by
  have hb2 : bn Ideal I (s + 1) ≤ 576 := bnd_le _ _
  have hb1 : bn Ideal I s ≤ 576 := bnd_le _ _
  have hm : bn Ideal I s ≤ bn Ideal I (s + 1) := by
    by_contra hc
    have h1 := lt_bn (F := Ideal) h (s := s) (k := bn Ideal I (s + 1)) (by omega) (by omega)
    have h2 := lt_bn (F := Ideal) h (s := s + 1) (k := bn Ideal I (s + 1)) (by omega) (by omega)
    have := h1.1 (by omega)
    have := h2.2 (by omega)
    omega
  rw [acc1_eq, if_neg (by omega), acc0_eq, if_neg (by omega), accCnt, if_pos ⟨rfl, hs⟩]
  unfold segSum
  rw [Finset.sum_congr rfl (g := fun k => if bn Ideal I s ≤ k ∧ k < bn Ideal I (s + 1) then 1 else 0)
      (fun k hk => if_congr (mem_bn h hs (by rw [Finset.mem_range] at hk; omega)) rfl rfl), sum_between_one _ _ hb2]
  show (((bnd Ideal I (s + 1) - bnd Ideal I s).toInt : ℝ) : EReal) = _
  have e : (bnd Ideal I (s + 1) - bnd Ideal I s).toNat = bn Ideal I (s + 1) - bn Ideal I s :=
    BitVec.toNat_sub_of_le (BitVec.le_def.2 hm)
  rw [toInt_small (by omega), e]
  norm_cast

/-- Runs laid end to end: the sums of `n` windows of length `L`, added up. -/
theorem sum_windows (f : ℕ → EReal) (L n : ℕ) : (∑ w ∈ range n, ∑ k ∈ range L, f (L * w + k)) = ∑ k ∈ range (L * n), f k := by
  induction n with
  | zero => rfl
  | succ n ih => rw [Finset.sum_range_succ, ih, Nat.mul_succ, Finset.sum_range_add]

/-- The segment sums of `n` windows of length `L` from `o` on, added up. -/
theorem segSum_windows (g : ℕ → BitVec 32) (Y : ℕ → EReal) (s o L n : ℕ) :
    (∑ w ∈ range n, segSum L (fun k => g (o + L * w + k)) (fun k => Y (o + L * w + k)) s)
      = segSum (L * n) (fun k => g (o + k)) (fun k => Y (o + k)) s := by
  unfold segSum
  rw [← sum_windows]
  simp only [Nat.add_assoc]

/-- A run cut in two. -/
theorem segSum_add (g : ℕ → BitVec 32) (Y : ℕ → EReal) (s a b : ℕ) :
    segSum a g Y s + segSum b (fun k => g (a + k)) (fun k => Y (a + k)) s = segSum (a + b) g Y s := by
  unfold segSum
  rw [Finset.sum_range_add]

end Cert.Proof.Seg
-- ==== Proof.TcVal.lean ====
/-
  What the TensorCore calls compute over the extended reals: the sums and the counts of the accumulating call's seven
  blocks, and the quotient of the combining call.
-/
module

public import proofs.«01_k».proof.Proof.SegMath
public import proofs.«01_k».proof.Proof.TcRegion
public import Idealize.ShloMosaic.Lib.Pointwise

@[expose] public section

set_option maxRecDepth 16384

noncomputable section

namespace Cert.Proof.Seg

open Cert.KernelIdeal Cert.KernelIdeal.Gen
open Idealize.ShloMosaic Finset

/-- The one-hot matrix: one where the token's segment number is the column, zero elsewhere. -/
theorem pay3_apply (v3 : Vec Ideal S1x1x2048 .i32) (k : Fin 2048) (s : Fin 16) :
    k1_pay3 (F := Ideal) v3 (ix2 k s) = if (v3 (ix3 0 0 k)).toNat = s.val then (1 : EReal) else 0 := by
  pointwise [k1_pay3]
  generalize v3 (ix3 0 0 k) = a
  have hs := s.isLt
  by_cases h : a.toNat = s.val
  · have : a = BitVec.ofNat 32 s.val := by apply BitVec.eq_of_toNat_eq; rw [BitVec.toNat_ofNat]; omega
    rw [if_pos h, this]
    show (((BitVec.setWidth 32 (BitVec.ofBool (BitVec.ofNat 32 s.val == BitVec.ofNat 32 s.val))).toInt : ℝ) : EReal) = 1
    rw [beq_self_eq_true]
    rw [show (BitVec.setWidth 32 (BitVec.ofBool true)).toInt = 1 by decide]
    simp
  · have : ¬ a = BitVec.ofNat 32 s.val := by
      intro e; apply h; rw [e, BitVec.toNat_ofNat]; omega
    rw [if_neg h]
    show (((BitVec.setWidth 32 (BitVec.ofBool (a == BitVec.ofNat 32 s.val))).toInt : ℝ) : EReal) = 0
    rw [beq_eq_false_iff_ne.2 this]
    rw [show (BitVec.setWidth 32 (BitVec.ofBool false)).toInt = 0 by decide]
    simp

/-- A block's products, added to what the accumulator held. -/
theorem pay4_apply (v3 : Vec Ideal S1x1x2048 .i32) (v11 : Vec Ideal S16x128 .f32) (v12 : Vec Ideal S2048x128 .f32) (s : Fin 16) (c : Fin 128) :
    k1_pay4 (F := Ideal) v3 v11 v12 (ix2 s c)
      = v11 (ix2 s c) + ∑ k : Fin 2048, (if (v3 (ix3 0 0 k)).toNat = s.val then v12 (ix2 k c) else 0) := by
  have e : k1_pay4 (F := Ideal) v3 v11 v12 (ix2 s c) = v11 (ix2 s c) + ∑ k : Fin 2048, k1_pay3 (F := Ideal) v3 (ix2 k s) * v12 (ix2 k c) := by
    unfold k1_pay4
    generalize k1_pay3 (F := Ideal) v3 = oh
    pointwise
  rw [e]
  refine congrArg (v11 (ix2 s c) + ·) (Finset.sum_congr rfl fun k _ => ?_)
  rw [pay3_apply, ite_mul, one_mul, zero_mul]

/-- A block's counts, added to what the accumulator held. -/
theorem pay5_apply (v3 : Vec Ideal S1x1x2048 .i32) (v19 : Vec Ideal S16x128 .f32) (s : Fin 16) (c : Fin 128) :
    k1_pay5 (F := Ideal) v3 v19 (ix2 s c)
      = v19 (ix2 s c) + ∑ k : Fin 2048, (if (v3 (ix3 0 0 k)).toNat = s.val then (1 : EReal) else 0) := by
  have e : k1_pay5 (F := Ideal) v3 v19 (ix2 s c) = v19 (ix2 s c) + ∑ k : Fin 2048, k1_pay3 (F := Ideal) v3 (ix2 k s) := by
    unfold k1_pay5
    generalize k1_pay3 (F := Ideal) v3 = oh
    pointwise
  rw [e]
  exact congrArg (v19 (ix2 s c) + ·) (Finset.sum_congr rfl fun k _ => pay3_apply _ _ _)

theorem pay1_apply (s : Fin 16) (c : Fin 128) : k1_pay1 (F := Ideal) (ix2 s c) = 0 := by
  pointwise [k1_pay1]

theorem pay2_apply (s : Fin 16) (c : Fin 128) : k1_pay2 (F := Ideal) (ix2 s c) = 0 := by
  pointwise [k1_pay2]

/-- The combining call: the workers' and the blocks' sums over the larger of their counts and one. -/
theorem comb_apply (v0 : Vec Ideal S32x17x128 .f32) (v4 v10 : Vec Ideal S16x128 .f32) (s : Fin 16) (c : Fin 128) :
    k2_pay1 (F := Ideal) v0 v4 v10 (ix2 s c)
      = Ideal.div (∑ w : Fin 32, v0 (ix3 w ⟨s.val, by omega⟩ c) + v4 (ix2 s c))
          (max (∑ w : Fin 32, v0 (ix3 w 16 ⟨s.val, by omega⟩) + v10 (ix2 s c)) 1) := by
  pointwise [k2_pay1]

variable (fi : S32768.Idx → BitVec 32) (ff : S32768x128.Idx → Ideal .f32)

/-- What a block adds to the sums, as a segment sum of its tokens. -/
theorem block_sum (n : ℕ) (s : Fin 16) (c : Fin 128) :
    (∑ k : Fin 2048, (if ((tcIds (F := Ideal) fi n : Vec Ideal S1x1x2048 .i32) (ix3 0 0 k)).toNat = s.val then tcFlat ff n (ix2 k c) else 0))
      = segSum 2048 (fun k => idsN fi (18432 + 2048 * n + k)) (fun k => flatN ff (18432 + 2048 * n + k) c.val) s.val := by
  unfold segSum
  rw [Finset.sum_range]
  refine Finset.sum_congr rfl fun k _ => ?_
  show (if (idsN fi (2048 * (9 + n) + k.val)).toNat = s.val then flatN ff (2048 * (9 + n) + k.val) c.val else 0) = _
  rw [show 2048 * (9 + n) + k.val = 18432 + 2048 * n + k.val by omega]

/-- What a block adds to the counts, as a segment sum of ones. -/
theorem block_cnt (n : ℕ) (s : Fin 16) :
    (∑ k : Fin 2048, (if ((tcIds (F := Ideal) fi n : Vec Ideal S1x1x2048 .i32) (ix3 0 0 k)).toNat = s.val then (1 : EReal) else 0))
      = segSum 2048 (fun k => idsN fi (18432 + 2048 * n + k)) (fun _ => 1) s.val := by
  unfold segSum
  rw [Finset.sum_range]
  refine Finset.sum_congr rfl fun k _ => ?_
  show (if (idsN fi (2048 * (9 + n) + k.val)).toNat = s.val then (1 : EReal) else 0) = _
  rw [show 2048 * (9 + n) + k.val = 18432 + 2048 * n + k.val by omega]

/-- The sums after point `n`, -/
theorem tcS_apply (n : ℕ) (s : Fin 16) (c : Fin 128) :
    tcS fi ff n (ix2 s c)
      = ∑ w ∈ range (n + 1), segSum 2048 (fun k => idsN fi (18432 + 2048 * w + k)) (fun k => flatN ff (18432 + 2048 * w + k) c.val) s.val := by
  induction n with
  | zero =>
    show k1_pay4 (tcIds (F := Ideal) fi 0) (k1_pay1 (F := Ideal)) (tcFlat ff 0) (ix2 s c) = _
    rw [pay4_apply, pay1_apply, zero_add, block_sum, Finset.sum_range_one]
  | succ n ih =>
    show k1_pay4 (tcIds (F := Ideal) fi (n + 1)) (tcS fi ff n) (tcFlat ff (n + 1)) (ix2 s c) = _
    rw [pay4_apply, ih, block_sum, Finset.sum_range_succ _ (n + 1)]

/-- and the counts. -/
theorem tcC_apply (n : ℕ) (s : Fin 16) (c : Fin 128) :
    tcC (F := Ideal) fi n (ix2 s c)
      = ∑ w ∈ range (n + 1), segSum 2048 (fun k => idsN fi (18432 + 2048 * w + k)) (fun _ => 1) s.val := by
  induction n with
  | zero =>
    show k1_pay5 (tcIds (F := Ideal) fi 0) (k1_pay2 (F := Ideal)) (ix2 s c) = _
    rw [pay5_apply, pay2_apply, zero_add, block_cnt, Finset.sum_range_one]
  | succ n ih =>
    show k1_pay5 (tcIds (F := Ideal) fi (n + 1)) (tcC (F := Ideal) fi n) (ix2 s c) = _
    rw [pay5_apply, ih, block_cnt, Finset.sum_range_succ _ (n + 1)]

/-- The TensorCore's sums are those of the tokens from 18432 on, -/
theorem tcS_seg (s : Fin 16) (c : Fin 128) :
    tcS fi ff 6 (ix2 s c) = segSum 14336 (fun k => idsN fi (18432 + k)) (fun k => flatN ff (18432 + k) c.val) s.val := by
  rw [tcS_apply]
  exact segSum_windows (idsN fi) (fun k => flatN ff k c.val) s.val 18432 2048 7

/-- and its counts as well. -/
theorem tcC_seg (s : Fin 16) (c : Fin 128) :
    tcC (F := Ideal) fi 6 (ix2 s c) = segSum 14336 (fun k => idsN fi (18432 + k)) (fun _ => 1) s.val := by
  rw [tcC_apply]
  exact segSum_windows (idsN fi) (fun _ => 1) s.val 18432 2048 7

end Cert.Proof.Seg
-- ==== Proof.KerVal.lean ====
/-
  The kernel's result over the extended reals: every segment's sum over its count, or over one where it is empty.
-/
module

public import proofs.«01_k».proof.Proof.TcVal
public import proofs.«01_k».proof.Proof.Region

@[expose] public section

noncomputable section

namespace Cert.Proof.Seg

open Cert.KernelIdeal Cert.KernelIdeal.Gen
open Idealize.ShloMosaic Finset

attribute [local irreducible] acc1

variable (fi : S32768.Idx → BitVec 32) (ff : S32768x128.Idx → Ideal .f32)

/-- A worker's row `s`: the sums of its tokens of segment `s`. -/
theorem psW_row {fi : S32768.Idx → BitVec 32} (h : Srt 32768 (idsN fi)) (w : Fin 32) (s : Fin 16) (c : Fin 128) :
    psW fi ff w.val s.val c.val
      = segSum 576 (fun k => idsN fi (0 + 576 * w.val + k)) (fun k => flatN ff (0 + 576 * w.val + k) c.val) s.val := by
  have hw := w.isLt
  simp only [Nat.zero_add]
  refine acc1_row (h.window (576 * w.val) (by omega)) (flatW ff w.val) (fun k => flatN ff (576 * w.val + k) c.val) s.isLt ?_ ?_
  · intro k _; rfl
  · intro k _; exact congrArg (fun r => flatN ff r c.val) (by omega)

/-- A worker's last row: the numbers of its tokens by segment. -/
theorem psW_cnt {fi : S32768.Idx → BitVec 32} (h : Srt 32768 (idsN fi)) (w : Fin 32) (s : Fin 16) :
    psW fi ff w.val 16 s.val = segSum 576 (fun k => idsN fi (0 + 576 * w.val + k)) (fun _ => 1) s.val := by
  have hw := w.isLt
  simp only [Nat.zero_add]
  exact acc1_cnt (h.window (576 * w.val) (by omega)) (flatW ff w.val) s.isLt

/-- The workers' rows `s`, added up: the sums of the first 18432 tokens. -/
theorem workers_sum {fi : S32768.Idx → BitVec 32} (h : Srt 32768 (idsN fi)) (s : Fin 16) (c : Fin 128) :
    (∑ w : Fin 32, psW fi ff w.val s.val c.val) = segSum 18432 (idsN fi) (fun k => flatN ff k c.val) s.val := by
  rw [Finset.sum_congr rfl fun w _ => psW_row ff h w s c,
    ← Finset.sum_range (fun w => segSum 576 (fun k => idsN fi (0 + 576 * w + k)) (fun k => flatN ff (0 + 576 * w + k) c.val) s.val),
    segSum_windows (idsN fi) (fun k => flatN ff k c.val) s.val 0 576 32]
  simp only [Nat.zero_add]

/-- The workers' last rows, added up: the counts of the first 18432 tokens. -/
theorem workers_cnt {fi : S32768.Idx → BitVec 32} (h : Srt 32768 (idsN fi)) (s : Fin 16) :
    (∑ w : Fin 32, psW fi ff w.val 16 s.val) = segSum 18432 (idsN fi) (fun _ => 1) s.val := by
  rw [Finset.sum_congr rfl fun w _ => psW_cnt ff h w s,
    ← Finset.sum_range (fun w => segSum 576 (fun k => idsN fi (0 + 576 * w + k)) (fun _ => 1) s.val),
    segSum_windows (idsN fi) (fun _ => 1) s.val 0 576 32]
  simp only [Nat.zero_add]

/-- The kernel's result: a segment's sum over the larger of its count and one. -/
theorem ker_apply {fi : S32768.Idx → BitVec 32} (h : Srt 32768 (idsN fi)) (s : Fin 16) (c : Fin 128) :
    k2_pay1 (F := Ideal) (psV fi ff) (tcS fi ff 6) (tcC (F := Ideal) fi 6) (ix2 s c)
      = Ideal.div (segSum 32768 (idsN fi) (fun k => flatN ff k c.val) s.val)
          (max (segSum 32768 (idsN fi) (fun _ => 1) s.val) 1) := by
  rw [comb_apply]
  have e1 : (∑ w : Fin 32, psV fi ff (ix3 w ⟨s.val, by omega⟩ c)) = segSum 18432 (idsN fi) (fun k => flatN ff k c.val) s.val :=
    workers_sum ff h s c
  have e2 : (∑ w : Fin 32, psV fi ff (ix3 w 16 ⟨s.val, by omega⟩)) = segSum 18432 (idsN fi) (fun _ => 1) s.val :=
    workers_cnt ff h s
  rw [e1, e2, tcS_seg, tcC_seg]
  rw [segSum_add (idsN fi) (fun k => flatN ff k c.val) s.val 18432 14336, segSum_add (idsN fi) (fun _ => 1) s.val 18432 14336]

end Cert.Proof.Seg
-- ==== Proof.RefVal.lean ====
/-
  What the reference computes over the extended reals: every segment's sum over its count, or over one where it is empty.
-/
module

public import proofs.«01_k».proof.Proof.SegMath
public import proofs.«01_k».proof.Proof.Tile
public import proofs.«01_k».proof.Proof.Gen.ReferenceIdeal
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Proof.Seg

open Cert.ReferenceIdeal Cert.ReferenceIdeal.Gen
open Idealize.ShloMosaic Finset

/-! ## Where an update lands -/

/-- The index word that an update of a row reads, -/
theorem si_row (k : Fin 32768) (c : Fin 128) (q : Fin scatter_S16x128_S32768x1_S32768x128_1_0_0_1.scatterDimsToOperandDims.length) :
    scatter_S16x128_S32768x1_S32768x128_1_0_0_1.siIdx (ix2 k c) q = ix2 k (0 : Fin 1) := by
  funext b
  match b with
  | ⟨0, _⟩ => rfl
  | ⟨1, _⟩ => exact Subsingleton.elim (α := Fin 1) _ _

/-- and that an update of a count reads. -/
theorem si_one (k : Fin 32768) (q : Fin scatter_S16_S32768x1_S32768_n_0_0_1.scatterDimsToOperandDims.length) :
    scatter_S16_S32768x1_S32768_n_0_0_1.siIdx (ix1 k) q = ix2 k (0 : Fin 1) := by
  funext b
  match b with
  | ⟨0, _⟩ => rfl
  | ⟨1, _⟩ => exact Subsingleton.elim (α := Fin 1) _ _

/-- An element of token `k`'s row lands in the row that its index word names, in its own column. -/
theorem lands_row (idx : IVec S32768x1 32) (k : Fin 32768) (c' : Fin 128) (s : Fin 16) (c : Fin 128) :
    scatter_S16x128_S32768x1_S32768x128_1_0_0_1.resultIdx? (ix2 k c') idx = some (ix2 s c)
      ↔ (idx (ix2 k 0)).toInt = (s.val : Int) ∧ c' = c := by
  have h0 : scatter_S16x128_S32768x1_S32768x128_1_0_0_1.start (ix2 k c') idx 0 = (idx (ix2 k 0)).toInt := by
    unfold ScatterDims.start
    rw [dif_pos (show (0 : Fin 2) ∈ scatter_S16x128_S32768x1_S32768x128_1_0_0_1.scatterDimsToOperandDims from List.mem_singleton.2 rfl), si_row]
  have h1 : scatter_S16x128_S32768x1_S32768x128_1_0_0_1.start (ix2 k c') idx 1 = 0 := by
    unfold ScatterDims.start
    rw [dif_neg (show ¬ (1 : Fin 2) ∈ scatter_S16x128_S32768x1_S32768x128_1_0_0_1.scatterDimsToOperandDims from fun h => absurd (List.mem_singleton.1 h) (by decide))]
  have w0 : scatter_S16x128_S32768x1_S32768x128_1_0_0_1.window (ix2 k c') 0 = 0 := rfl
  have w1 : scatter_S16x128_S32768x1_S32768x128_1_0_0_1.window (ix2 k c') 1 = c'.val := rfl
  rw [Routing.resultIdx?_eq_some, Fin.ext_iff]
  constructor
  · intro h
    have a0 := h 0
    have a1 := h 1
    rw [h0, w0] at a0
    rw [h1, w1] at a1
    refine ⟨by simpa using a0, ?_⟩
    have : ((c'.val : Int)) = (c.val : Int) := by simpa using a1
    omega
  · rintro ⟨a0, a1⟩ a
    match a with
    | ⟨0, _⟩ =>
      show scatter_S16x128_S32768x1_S32768x128_1_0_0_1.start (ix2 k c') idx 0 + (scatter_S16x128_S32768x1_S32768x128_1_0_0_1.window (ix2 k c') 0 : Int) = (s.val : Int)
      rw [h0, w0, a0]; simp
    | ⟨1, _⟩ =>
      show scatter_S16x128_S32768x1_S32768x128_1_0_0_1.start (ix2 k c') idx 1 + (scatter_S16x128_S32768x1_S32768x128_1_0_0_1.window (ix2 k c') 1 : Int) = (c.val : Int)
      rw [h1, w1, a1]; simp

/-- Token `k` is counted where its index word says. -/
theorem lands_one (idx : IVec S32768x1 32) (k : Fin 32768) (s : Fin 16) :
    scatter_S16_S32768x1_S32768_n_0_0_1.resultIdx? (ix1 k) idx = some (ix1 s) ↔ (idx (ix2 k 0)).toInt = (s.val : Int) := by
  have h0 : scatter_S16_S32768x1_S32768_n_0_0_1.start (ix1 k) idx 0 = (idx (ix2 k 0)).toInt := by
    unfold ScatterDims.start
    rw [dif_pos (show (0 : Fin 1) ∈ scatter_S16_S32768x1_S32768_n_0_0_1.scatterDimsToOperandDims from List.mem_singleton.2 rfl), si_one]
  have w0 : scatter_S16_S32768x1_S32768_n_0_0_1.window (ix1 k) 0 = 0 := rfl
  rw [Routing.resultIdx?_eq_some]
  constructor
  · intro h
    have a0 := h 0
    rw [h0, w0] at a0
    simpa using a0
  · intro a0 a
    match a with
    | ⟨0, _⟩ =>
      show scatter_S16_S32768x1_S32768_n_0_0_1.start (ix1 k) idx 0 + (scatter_S16_S32768x1_S32768_n_0_0_1.window (ix1 k) 0 : Int) = (s.val : Int)
      rw [h0, w0, a0]; simp

/-! ## The sums and the counts -/

/-- A segment sum of all tokens, its segment numbers read off the array. -/
theorem seg_fin (fi : S32768.Idx → BitVec 32) (Y : ℕ → EReal) (s : ℕ) :
    segSum 32768 (idsN fi) Y s = ∑ k : Fin 32768, if (fi (ix1 k)).toNat = s then Y k.val else 0 := by
  unfold segSum
  rw [Finset.sum_range]
  refine Finset.sum_congr rfl fun k _ => ?_
  have e : idsN fi k.val = fi (ix1 k) := by
    unfold idsN
    rw [dif_pos k.isLt]
    exact congrArg fi (funext fun a => match a with | ⟨0, _⟩ => rfl)
  rw [e]

theorem flatN_fin (ff : S32768x128.Idx → Ideal .f32) (k : Fin 32768) (c : Fin 128) : flatN ff k.val c.val = ff (ix2 k c) := by
  unfold flatN
  rw [dif_pos ⟨k.isLt, c.isLt⟩]
  exact congrArg ff (funext fun a => match a with | ⟨0, _⟩ => rfl | ⟨1, _⟩ => rfl)

/-- A small word, read signed, is a number when it is that number read unsigned. -/
theorem toInt_eq_small {x : BitVec 32} (h : x.toNat < 16) (s : ℕ) : x.toInt = (s : Int) ↔ x.toNat = s := by
  rw [toInt_small (by omega)]; omega

/-- The scattered sums are the segment sums. -/
theorem scatterAdd_apply (x0 : FVec Ideal S16x128 .f32) (hx0 : ∀ j, x0 j = (0 : EReal)) (idx : IVec S32768x1 32) (fi : S32768.Idx → BitVec 32)
    (hidx : ∀ k : Fin 32768, idx (ix2 k 0) = fi (ix1 k)) (hfi : ∀ j, (fi j).toNat < 16) (ff : S32768x128.Idx → Ideal .f32) (s : Fin 16) (c : Fin 128) :
    Host.scatterAdd (F := Ideal) (φ := .f32) scatter_S16x128_S32768x1_S32768x128_1_0_0_1 x0 idx ff (ix2 s c)
      = segSum 32768 (idsN fi) (fun k => flatN ff k c.val) s.val := by
  show x0 (ix2 s c) + ∑ j ∈ Finset.univ.filter (fun j => scatter_S16x128_S32768x1_S32768x128_1_0_0_1.resultIdx? j idx = some (ix2 s c)), ff j = _
  rw [hx0, zero_add, Finset.sum_filter, sum_idx2, seg_fin]
  refine Finset.sum_congr rfl fun k _ => ?_
  rw [flatN_fin]
  have e : ∀ c' : Fin 128, (if scatter_S16x128_S32768x1_S32768x128_1_0_0_1.resultIdx? (ix2 k c') idx = some (ix2 s c) then ff (ix2 k c') else 0)
      = if c' = c then (if (fi (ix1 k)).toNat = s.val then ff (ix2 k c') else 0) else 0 := by
    intro c'
    rw [← ite_and]
    refine if_congr ?_ rfl rfl
    rw [lands_row, hidx, toInt_eq_small (hfi _)]
    exact and_comm
  rw [Finset.sum_congr rfl fun c' _ => e c', Finset.sum_ite_eq']
  rw [if_pos (Finset.mem_univ c)]

/-- Adding one at every hit counts the hits. -/
theorem foldl_ones {α : Type} (P : α → Prop) [DecidablePred P] (L : List α) (a : BitVec 32) :
    L.foldl (fun r n => if P n then IntOp.addi r 1#32 else r) a = a + BitVec.ofNat 32 (L.map fun n => if P n then 1 else 0).sum := by
  induction L generalizing a with
  | nil => simp
  | cons x L ih =>
    rw [List.foldl_cons, ih, List.map_cons, List.sum_cons]
    by_cases h : P x
    · rw [if_pos h, if_pos h, BitVec.ofNat_add]
      show a + 1#32 + _ = a + (1#32 + _)
      rw [BitVec.add_assoc]
    · rw [if_neg h, if_neg h, Nat.zero_add]

/-- Position `n` of a vector is its index `n`. -/
theorem symm_vec (n : Fin S32768.numel) (k : Fin 32768) (h : n.val = k.val) : S32768.rowMajor.symm n = ix1 k :=
  (S32768.rowMajor.symm_apply_eq).2 (Fin.ext (by rw [Shape.rowMajor_val_one]; exact h))

/-- How many tokens belong to segment `s`. -/
def cntN (fi : S32768.Idx → BitVec 32) (s : ℕ) : ℕ := ∑ k : Fin 32768, if (fi (ix1 k)).toNat = s then 1 else 0

theorem cntN_le (fi : S32768.Idx → BitVec 32) (s : ℕ) : cntN fi s ≤ 32768 := by
  unfold cntN
  refine le_trans (Finset.sum_le_sum fun k _ => (by split <;> omega : _ ≤ 1)) ?_
  simp

theorem numel_vec : S32768.numel = 32768 := by simp [Shape.numel]

/-- The scattered ones count each segment's tokens. -/
theorem scatter_apply (x0 : IVec S16 32) (hx0 : ∀ j, x0 j = 0#32) (idx : IVec S32768x1 32) (fi : S32768.Idx → BitVec 32)
    (hidx : ∀ k : Fin 32768, idx (ix2 k 0) = fi (ix1 k)) (hfi : ∀ j, (fi j).toNat < 16) (upd : IVec S32768 32) (hupd : ∀ j, upd j = 1#32) (s : Fin 16) :
    Host.scatter scatter_S16_S32768x1_S32768_n_0_0_1 IntOp.addi x0 idx upd (ix1 s) = BitVec.ofNat 32 (cntN fi s.val) := by
  rw [Routing.scatter_at, hx0]
  simp only [hupd]
  rw [foldl_ones, BitVec.zero_add, ← Fin.sum_univ_def]
  refine congrArg (BitVec.ofNat 32) ?_
  unfold cntN
  refine Fintype.sum_equiv (finCongr numel_vec) _ _ fun n => ?_
  rw [symm_vec n (finCongr numel_vec n) rfl]
  refine if_congr ?_ rfl rfl
  rw [lands_one, hidx, toInt_eq_small (hfi _)]

theorem cast_nat (n : ℕ) : (((n : Int) : ℝ) : EReal) = (n : EReal) := by norm_cast

/-- The number of a segment's tokens as a segment sum of ones. -/
theorem cnt_seg (fi : S32768.Idx → BitVec 32) (s : ℕ) :
    ((((BitVec.ofNat 32 (cntN fi s)).toInt : ℝ)) : EReal) = segSum 32768 (idsN fi) (fun _ => 1) s := by
  have h := cntN_le fi s
  have e : (BitVec.ofNat 32 (cntN fi s)).toInt = (cntN fi s : Int) := by
    rw [BitVec.toInt_eq_toNat_cond, BitVec.toNat_ofNat]
    have : cntN fi s % 2 ^ 32 = cntN fi s := Nat.mod_eq_of_lt (by omega)
    rw [this, if_pos (by omega)]
  rw [e, seg_fin]
  rw [cast_nat]
  unfold cntN
  rw [Nat.cast_sum]
  refine Finset.sum_congr rfl fun k _ => ?_
  split <;> simp

/-- Clipping below at zero and wrapping leave a small word as it is. -/
theorem clip_small (x a : BitVec 32) (h : x.toNat < 16) :
    Scalar.select (IntOp.cmpi .slt (IntOp.maxsi 0#32 x) 0#32) a (IntOp.maxsi 0#32 x) = x := by
  have e : IntOp.maxsi 0#32 x = x := by
    unfold IntOp.maxsi
    by_cases hx : x.slt 0#32 = true
    · rw [slt_small (by omega) (by decide)] at hx; exact absurd hx (by simp)
    · rw [if_neg hx]
  rw [e]
  exact Routing.wrap_of_lt x a (by omega)

/-- The reference's result, as its program spells it. -/
abbrev refV (fi : IVec S32768 32) (ff : FVec Ideal S32768x128 .f32) : FVec Ideal S16x128 .f32 :=
  Host.divf (Host.scatterAdd scatter_S16x128_S32768x1_S32768x128_1_0_0_1 (broadcastInDim S16x128 ![] bcast_S_S16x128 (constant S_ .f32 0x00000000#32)) (broadcastInDim S32768x1 ![0] bcast_S32768_S32768x1_0 fi) ff) (broadcastInDim S16x128 ![0, 1] bcast_S16x1_S16x128_0_1 (broadcastInDim S16x1 ![0] bcast_S16_S16x1_0 (maximumf (sitofp .f32 (Host.scatter scatter_S16_S32768x1_S32768_n_0_0_1 IntOp.addi (broadcastInDim S16 ![] bcast_S_S16 (constantI S_ 32 0#32)) (broadcastInDim S32768x1 ![0] bcast_S32768_S32768x1_0 (select (cmpi .slt (maxsi (broadcastInDim S32768 ![] bcast_S_S32768 (id (constantI S_ 32 0#32))) fi) (broadcastInDim S32768 ![] bcast_S_S32768 (constantI S_ 32 0#32))) (addi (maxsi (broadcastInDim S32768 ![] bcast_S_S32768 (id (constantI S_ 32 0#32))) fi) (broadcastInDim S32768 ![] bcast_S_S32768 (constantI S_ 32 16#32))) (maxsi (broadcastInDim S32768 ![] bcast_S_S32768 (id (constantI S_ 32 0#32))) fi))) (broadcastInDim S32768 ![] bcast_S_S32768 (constantI S_ 32 1#32)))) (broadcastInDim S16 ![] bcast_S_S16 (constant S_ .f32 0x3F800000#32)))))

/-- The reference's result: a segment's sum over the larger of its count and one. -/
theorem ref_apply (fi : IVec S32768 32) (hfi : ∀ j, (fi j).toNat < 16) (ff : FVec Ideal S32768x128 .f32) (s : Fin 16) (c : Fin 128) :
    refV fi ff (ix2 s c)
      = Ideal.div (segSum 32768 (idsN fi) (fun k => flatN ff k c.val) s.val)
          (max (segSum 32768 (idsN fi) (fun _ => 1) s.val) 1) := by
  unfold refV
  rw [← cnt_seg]
  generalize hS : Host.scatterAdd (F := Ideal) (φ := .f32) scatter_S16x128_S32768x1_S32768x128_1_0_0_1 _ _ ff = S
  generalize hC : Host.scatter scatter_S16_S32768x1_S32768_n_0_0_1 IntOp.addi _ _ _ = C
  have e1 : S (ix2 s c) = segSum 32768 (idsN fi) (fun k => flatN ff k c.val) s.val := by
    rw [← hS]
    refine scatterAdd_apply _ (fun j => ?_) _ fi (fun k => ?_) hfi ff s c
    · pointwise
    · pointwise
  have e2 : C (ix1 s) = BitVec.ofNat 32 (cntN fi s.val) := by
    rw [← hC]
    refine scatter_apply _ (fun j => ?_) _ fi (fun k => ?_) hfi _ (fun j => ?_) s
    · pointwise
    · pointwise
      exact clip_small _ _ (hfi _)
    · pointwise
  rw [← e1, ← e2]
  pointwise
  rfl

end Cert.Proof.Seg
-- ==== Proof.PreRead.lean ====
/-
  What the precondition says: the segment numbers are below sixteen and in order.
-/
module

public import proofs.«01_k».proof.Proof.SegMath
public import proofs.«01_k».proof.Proof.Tile
public import proofs.«01_k».proof.Proof.Gen.Pre_sorted_segments
public import Idealize.ShloMosaic.Lib.Pointwise

@[expose] public section

set_option maxRecDepth 16384

noncomputable section

namespace Cert.Proof.Seg

open Cert.Pre_sorted_segments Cert.Pre_sorted_segments.Gen
open Idealize.ShloMosaic

/-- The two comparisons, as orders of numbers. -/
theorem andi_one (a b : BitVec 32) (h : IntOp.andi (IntOp.cmpi .sle a b) (IntOp.cmpi .slt b 16#32) = 1#1) : a.toInt ≤ b.toInt ∧ b.toInt < 16 := by
  have h1 : IntOp.cmpi .sle a b = BitVec.ofBool (a.sle b) := rfl
  have h2 : IntOp.cmpi .slt b 16#32 = BitVec.ofBool (b.slt 16#32) := rfl
  rw [h1, h2] at h
  cases e1 : a.sle b with
  | false => rw [e1] at h; cases e2 : b.slt 16#32 <;> rw [e2] at h <;> exact absurd h (by decide)
  | true =>
    cases e2 : b.slt 16#32 with
    | false => rw [e1, e2] at h; exact absurd h (by decide)
    | true =>
      rw [BitVec.sle_iff_toInt_le] at e1
      rw [BitVec.slt_iff_toInt_lt] at e2
      exact ⟨e1, e2⟩

variable (ff : FVec Ideal S32768x128 .f32) (fi : IVec S32768 32)

theorem idsN_at (k : ℕ) (h : k < 32768) : idsN fi k = fi (ix1 ⟨k, h⟩) := by
  unfold idsN
  rw [dif_pos h]
  exact congrArg fi (funext fun a => match a with | ⟨0, _⟩ => rfl)

/-- What the precondition says of token `k`. -/
theorem pre_apply (h : Cert.Pre_sorted_segments.fn (F := Ideal) ff fi = fun _ => 1#1) (k : Fin 32768) :
    IntOp.andi (IntOp.cmpi .sle (if h : k.val < 1 then 0#32 else fi (ix1 ⟨k.val - 1, by omega⟩)) (fi (ix1 k))) (IntOp.cmpi .slt (fi (ix1 k)) 16#32) = 1#1 := by
  have h := congrFun h (ix1 k)
  pointwise [Cert.Pre_sorted_segments.fn] at h
  exact h

/-- The first number is not negative, -/
theorem pre_first (h : Cert.Pre_sorted_segments.fn (F := Ideal) ff fi = fun _ => 1#1) : 0 ≤ (idsN fi 0).toInt ∧ (idsN fi 0).toInt < 16 := by
  have e := pre_apply ff fi h ⟨0, by omega⟩
  rw [dif_pos (by decide)] at e
  rw [idsN_at fi 0 (by omega)]
  exact andi_one _ _ e

/-- and each other is at least the one before it. -/
theorem pre_next (h : Cert.Pre_sorted_segments.fn (F := Ideal) ff fi = fun _ => 1#1) (k : ℕ) (hk : k + 1 < 32768) :
    (idsN fi k).toInt ≤ (idsN fi (k + 1)).toInt ∧ (idsN fi (k + 1)).toInt < 16 := by
  have e := pre_apply ff fi h ⟨k + 1, hk⟩
  rw [dif_neg (show ¬ k + 1 < 1 by omega)] at e
  rw [idsN_at fi k (by omega), idsN_at fi (k + 1) hk]
  exact andi_one _ _ e

theorem pre_range (h : Cert.Pre_sorted_segments.fn (F := Ideal) ff fi = fun _ => 1#1) (k : ℕ) (hk : k < 32768) :
    0 ≤ (idsN fi k).toInt ∧ (idsN fi k).toInt < 16 := by
  induction k with
  | zero => exact pre_first ff fi h
  | succ k ih => exact ⟨le_trans (ih (by omega)).1 (pre_next ff fi h k hk).1, (pre_next ff fi h k hk).2⟩

theorem pre_mono (h : Cert.Pre_sorted_segments.fn (F := Ideal) ff fi = fun _ => 1#1) (i n : ℕ) (hn : i + n < 32768) :
    (idsN fi i).toInt ≤ (idsN fi (i + n)).toInt := by
  induction n with
  | zero => exact le_refl _
  | succ n ih => exact le_trans (ih (by omega)) (pre_next ff fi h (i + n) hn).1

theorem toNat_of_range {x : BitVec 32} (h : 0 ≤ x.toInt ∧ x.toInt < 16) : (x.toNat : Int) = x.toInt := by
  have := x.isLt
  rw [BitVec.toInt_eq_toNat_cond] at h ⊢
  split at h <;> split <;> omega

/-- Under the precondition the segment numbers are below sixteen and in order. -/
theorem pre_read (h : Cert.Pre_sorted_segments.fn (F := Ideal) ff fi = fun _ => 1#1) :
    (∀ j, (fi j).toNat < 16) ∧ Srt 32768 (idsN fi) := by
  have hr := pre_range ff fi h
  have hlt : ∀ k, k < 32768 → (idsN fi k).toNat < 16 := fun k hk => by
    have := toNat_of_range (hr k hk)
    have := (hr k hk).2
    omega
  refine ⟨fun j => ?_, hlt, fun i j hij hj => ?_⟩
  · have e := hlt (j 0).val (j 0).isLt
    rw [idsN_at fi _ (j 0).isLt] at e
    rwa [← ix1_eta (n0 := 32768) j]
  · have a := toNat_of_range (hr i (by omega))
    have b := toNat_of_range (hr j hj)
    have c := pre_mono ff fi h i (j - i) (by omega)
    rw [show i + (j - i) = j by omega] at c
    omega

end Cert.Proof.Seg
-- ==== Proof.Algebraic.lean ====
/-
  The kernel and the reference compute the same means over the extended reals.
-/
module

public import proofs.«01_k».proof.Proof.Frames
public import proofs.«01_k».proof.Proof.KerVal
public import proofs.«01_k».proof.Proof.RefVal
public import proofs.«01_k».proof.Proof.PreRead

@[expose] public section

noncomputable section

namespace Cert.Proof.Seg

open Cert.KernelIdeal Cert.KernelIdeal.Gen
open Idealize.ShloMosaic Idealize.SL.Sem

/-- For segment numbers below sixteen and in order, the kernel's result and the reference's are one array: at every segment
and column both are the segment's sum over the larger of its count and one. -/
theorem result_eq (ff : S32768x128.Idx → Ideal .f32) (fi : S32768.Idx → BitVec 32)
    (hpre : Cert.Pre_sorted_segments.fn (F := Ideal) ff fi = fun _ => 1#1) :
    k2_pay1 (F := Ideal) (psV fi ff) (tcS fi ff 6) (tcC (F := Ideal) fi 6) = refV fi ff := by
  obtain ⟨hlt, hs⟩ := pre_read ff fi hpre
  funext j
  rw [← ix2_eta (n0 := 16) (n1 := 128) j]
  exact (ker_apply ff hs (j 0) (j 1)).trans (ref_apply fi hlt ff (j 0) (j 1)).symm

/-- Over the extended reals the kernel and the reference leave the same means, for segment numbers below sixteen and in
order. -/
theorem algebraic : Cert.algebraic_KernelIdeal_ReferenceIdeal_pre_sorted_segments := by
  intro m ρ m' ρ' hpre hin
  refine ⟨fun c => resOut m c, ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun r h c => ⟨(h c).1.trans ?_, (h c).2.1, (h c).2.2⟩)
      (Cert.ReferenceIdeal.Value.run (F := Ideal) m' ρ')
    rw [(hin c).1, (hin c).2]
    exact (result_eq _ _ (hpre c)).symm

end Cert.Proof.Seg
-- ==== Proof.lean ====
/-
  The proof of the claim: the frames of the kernel and of the reference, and that over the extended reals the two compute
  the same segment means.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_sorted_segments
public import proofs.«01_k».proof.Proof.Frames
public import proofs.«01_k».proof.Proof.Algebraic

@[expose] public section

noncomputable section

namespace Cert.Proof

open Idealize.ShloMosaic Idealize.SL.Sem

/-- Each program runs, leaves its arguments and its semaphores; the ideal program is the kernel; and the kernel's result is
the reference's. -/
theorem claim : Cert.Claim :=
  ⟨Cert.Kernel.Gen.facts, Cert.KernelIdeal.Gen.facts, Cert.ReferenceIdeal.Gen.facts, Cert.Pre_sorted_segments.Gen.facts,
    Seg.frame_kernel, Seg.frame_ideal, fun m ρ _ => Seg.frame_ideal m ρ trivial, Seg.frame_reference,
    fun m ρ _ => Seg.frame_reference m ρ trivial, trivial, Seg.algebraic⟩

end Cert.Proof

end
